-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v87) = v0 c
          ∧ r.2.mem ((c.tc : Thread Cert.Reference4Ideal.nD Cert.Reference4Ideal.τ).loc Cert.Reference4Ideal.main_v103) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S16x2048x15360 : Shape := ⟨3, ![16, 2048, 15360]⟩
abbrev S8x513 : Shape := ⟨2, ![8, 513]⟩
abbrev S16x2048x2048 : Shape := ⟨3, ![16, 2048, 2048]⟩
abbrev S_ : Shape := ⟨0, ![]⟩

class Facts : Prop where
  slices_S16x2048x15360_S16x2048x2048_0_0_12288 : S16x2048x15360.Slices ![0, 0, 12288] S16x2048x2048
  bitsLt_bf16_f32 : FTy.bits .bf16 < FTy.bits .f32
  bcast_S_S16x2048x2048 : S_.BroadcastsInDim S16x2048x2048 (![] : Fin 0 → Fin S16x2048x2048.rank)
  bcast_S_S8x513 : S_.BroadcastsInDim S8x513 (![] : Fin 0 → Fin S8x513.rank)

variable [Facts]

def fn {F : FTy → Type} [FloatOps F] (main_arg0 : FVec F S16x2048x15360 .bf16) (main_arg1 : FVec F S8x513 .f32) : IVec S16x2048x2048 1 × IVec S8x513 1 :=
  let main_v0 : FVec F S16x2048x2048 .bf16 := (extractStridedSlice S16x2048x2048 ![0, 0, 12288] · slices_S16x2048x15360_S16x2048x2048_0_0_12288) main_arg0
  let main_v1 : FVec F S16x2048x2048 .f32 := (extf .f32 · bitsLt_bf16_f32) main_v0
  let main_v2 : FVec F S16x2048x2048 .f32 := Host.absf main_v1
  let main_cst : FVec F S_ .f32 := constant S_ .f32 0x7F800000#32
  let main_v3 : FVec F S16x2048x2048 .f32 := broadcastInDim S16x2048x2048 ![] bcast_S_S16x2048x2048 main_cst
  let main_v4 : IVec S16x2048x2048 1 := cmpf .olt main_v2 main_v3
  let main_v5 : FVec F S8x513 .f32 := Host.absf main_arg1
  let main_cst_0 : FVec F S_ .f32 := constant S_ .f32 0x7F800000#32
  let main_v6 : FVec F S8x513 .f32 := broadcastInDim S8x513 ![] bcast_S_S8x513 main_cst_0
  let main_v7 : IVec S8x513 1 := cmpf .olt main_v5 main_v6
  (main_v4, main_v7)
-- ==== Kernel.lean ====
abbrev S16x2048x15360 : Shape := ⟨3, ![16, 2048, 15360]⟩
abbrev S8x513 : Shape := ⟨2, ![8, 513]⟩
abbrev S_ : Shape := ⟨0, ![]⟩
abbrev S15360 : Shape := ⟨1, ![15360]⟩
abbrev S1 : Shape := ⟨1, ![1]⟩
abbrev S1024 : Shape := ⟨1, ![1024]⟩
abbrev S1x1x15360 : Shape := ⟨3, ![1, 1, 15360]⟩
abbrev S768 : Shape := ⟨1, ![768]⟩
abbrev S1x768 : Shape := ⟨2, ![1, 768]⟩
abbrev S256 : Shape := ⟨1, ![256]⟩
abbrev S256x1 : Shape := ⟨2, ![256, 1]⟩
abbrev S256x768 : Shape := ⟨2, ![256, 768]⟩
abbrev S8x1 : Shape := ⟨2, ![8, 1]⟩
abbrev S8x511 : Shape := ⟨2, ![8, 511]⟩
abbrev S8x512 : Shape := ⟨2, ![8, 512]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S1x256x768 : Shape := ⟨3, ![1, 256, 768]⟩
abbrev S16x2048x1024 : Shape := ⟨3, ![16, 2048, 1024]⟩
abbrev S1x2048x512 : Shape := ⟨3, ![1, 2048, 512]⟩
abbrev S4x256x768 : Shape := ⟨3, ![4, 256, 768]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S1x512x128 : Shape := ⟨3, ![1, 512, 128]⟩
abbrev S512x128 : Shape := ⟨2, ![512, 128]⟩
abbrev S256x512 : Shape := ⟨2, ![256, 512]⟩
abbrev S1x256x512 : Shape := ⟨3, ![1, 256, 512]⟩
abbrev S1x768x128 : Shape := ⟨3, ![1, 768, 128]⟩
abbrev S768x128 : Shape := ⟨2, ![768, 128]⟩
abbrev S512x256 : Shape := ⟨2, ![512, 256]⟩
abbrev S768x256 : Shape := ⟨2, ![768, 256]⟩

abbrev nBuf : Space → Nat
  | .hbm => 95
  | .vmem => 10
  | .smem => 0
  | _ => 0

abbrev bufTy : (tb : Table) → Fin (tcTables nBuf tb) → BufTy
  | .hbm, ⟨0, _⟩ => ⟨S16x2048x15360, .bf16⟩
  | .hbm, ⟨1, _⟩ => ⟨S8x513, .f32⟩
  | .hbm, ⟨2, _⟩ => ⟨S_, .f32⟩
  | .hbm, ⟨3, _⟩ => ⟨S15360, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .i32⟩
  | .hbm, ⟨11, _⟩ => ⟨S1, .i32⟩
  | .hbm, ⟨12, _⟩ => ⟨S1024, .f32⟩
  | .hbm, ⟨13, _⟩ => ⟨S15360, .f32⟩
  | .hbm, ⟨14, _⟩ => ⟨S16x2048x15360, .f32⟩
  | .hbm, ⟨15, _⟩ => ⟨S1x1x15360, .f32⟩
  | .hbm, ⟨16, _⟩ => ⟨S16x2048x15360, .f32⟩
  | .hbm, ⟨17, _⟩ => ⟨S16x2048x15360, .f32⟩
  | .hbm, ⟨18, _⟩ => ⟨S16x2048x15360, .bf16⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x513, .f32⟩
  | .hbm, ⟨24, _⟩ => ⟨S8x513, .f32⟩
  | .hbm, ⟨25, _⟩ => ⟨S768, .i32⟩
  | .hbm, ⟨26, _⟩ => ⟨S1x768, .i32⟩
  | .hbm, ⟨27, _⟩ => ⟨S_, .i32⟩
  | .hbm, ⟨28, _⟩ => ⟨S_, .i32⟩
  | .hbm, ⟨29, _⟩ => ⟨S1x768, .i32⟩
  | .hbm, ⟨30, _⟩ => ⟨S1x768, .i32⟩
  | .hbm, ⟨31, _⟩ => ⟨S1x768, .i32⟩
  | .hbm, ⟨32, _⟩ => ⟨S_, .i32⟩
  | .hbm, ⟨33, _⟩ => ⟨S1x768, .i32⟩
  | .hbm, ⟨34, _⟩ => ⟨S1x768, .i1⟩
  | .hbm, ⟨35, _⟩ => ⟨S1x768, .i32⟩
  | .hbm, ⟨36, _⟩ => ⟨S1x768, .i32⟩
  | .hbm, ⟨37, _⟩ => ⟨S_, .i32⟩
  | .hbm, ⟨38, _⟩ => ⟨S1x768, .i32⟩
  | .hbm, ⟨39, _⟩ => ⟨S1x768, .i1⟩
  | .hbm, ⟨40, _⟩ => ⟨S1x768, .i1⟩
  | .hbm, ⟨41, _⟩ => ⟨S_, .i32⟩
  | .hbm, ⟨42, _⟩ => ⟨S1x768, .i32⟩
  | .hbm, ⟨43, _⟩ => ⟨S1x768, .i32⟩
  | .hbm, ⟨44, _⟩ => ⟨S1x768, .i32⟩
  | .hbm, ⟨45, _⟩ => ⟨S256, .i32⟩
  | .hbm, ⟨46, _⟩ => ⟨S256x1, .i32⟩
  | .hbm, ⟨47, _⟩ => ⟨S_, .i32⟩
  | .hbm, ⟨48, _⟩ => ⟨S_, .i32⟩
  | .hbm, ⟨49, _⟩ => ⟨S256x1, .i32⟩
  | .hbm, ⟨50, _⟩ => ⟨S256x1, .i32⟩
  | .hbm, ⟨51, _⟩ => ⟨S256x1, .i32⟩
  | .hbm, ⟨52, _⟩ => ⟨S_, .i32⟩
  | .hbm, ⟨53, _⟩ => ⟨S256x1, .i32⟩
  | .hbm, ⟨54, _⟩ => ⟨S256x1, .i1⟩
  | .hbm, ⟨55, _⟩ => ⟨S256x1, .i32⟩
  | .hbm, ⟨56, _⟩ => ⟨S256x1, .i32⟩
  | .hbm, ⟨57, _⟩ => ⟨S_, .i32⟩
  | .hbm, ⟨58, _⟩ => ⟨S256x1, .i32⟩
  | .hbm, ⟨59, _⟩ => ⟨S256x1, .i1⟩
  | .hbm, ⟨60, _⟩ => ⟨S256x1, .i1⟩
  | .hbm, ⟨61, _⟩ => ⟨S_, .i32⟩
  | .hbm, ⟨62, _⟩ => ⟨S256x1, .i32⟩
  | .hbm, ⟨63, _⟩ => ⟨S256x1, .i32⟩
  | .hbm, ⟨64, _⟩ => ⟨S256x1, .i32⟩
  | .hbm, ⟨65, _⟩ => ⟨S256x768, .i32⟩
  | .hbm, ⟨66, _⟩ => ⟨S256x768, .i32⟩
  | .hbm, ⟨67, _⟩ => ⟨S256x768, .i32⟩
  | .hbm, ⟨68, _⟩ => ⟨S_, .i32⟩
  | .hbm, ⟨69, _⟩ => ⟨S256x768, .i32⟩
  | .hbm, ⟨70, _⟩ => ⟨S256x768, .i1⟩
  | .hbm, ⟨71, _⟩ => ⟨S_, .i32⟩
  | .hbm, ⟨72, _⟩ => ⟨S256x768, .i32⟩
  | .hbm, ⟨73, _⟩ => ⟨S256x768, .i1⟩
  | .hbm, ⟨74, _⟩ => ⟨S256x768, .i1⟩
  | .hbm, ⟨75, _⟩ => ⟨S8x1, .f32⟩
  | .hbm, ⟨76, _⟩ => ⟨S8x511, .f32⟩
  | .hbm, ⟨77, _⟩ => ⟨S8x512, .f32⟩
  | .hbm, ⟨78, _⟩ => ⟨S8x512, .f32⟩
  | .hbm, ⟨79, _⟩ => ⟨S_, .f32⟩
  | .hbm, ⟨80, _⟩ => ⟨S8x1, .f32⟩
  | .hbm, ⟨81, _⟩ => ⟨S8x1024, .f32⟩
  | .hbm, ⟨82, _⟩ => ⟨S1x8x1x1024, .f32⟩
  | .hbm, ⟨83, _⟩ => ⟨S1x8x256x1024, .f32⟩
  | .hbm, ⟨84, _⟩ => ⟨S8x262144, .f32⟩
  | .hbm, ⟨85, _⟩ => ⟨S8x261888, .f32⟩
  | .hbm, ⟨86, _⟩ => ⟨S8x256x1023, .f32⟩
  | .hbm, ⟨87, _⟩ => ⟨S8x256x768, .f32⟩
  | .hbm, ⟨88, _⟩ => ⟨S1x256x768, .i1⟩
  | .hbm, ⟨89, _⟩ => ⟨S_, .f32⟩
  | .hbm, ⟨90, _⟩ => ⟨S_, .f32⟩
  | .hbm, ⟨91, _⟩ => ⟨S8x256x768, .i1⟩
  | .hbm, ⟨92, _⟩ => ⟨S8x256x768, .f32⟩
  | .hbm, ⟨93, _⟩ => ⟨S8x256x768, .f32⟩
  | .hbm, ⟨94, _⟩ => ⟨S16x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S4x256x768, .f32⟩
  | .local _ .vmem, ⟨7, _⟩ => ⟨S4x256x768, .f32⟩
  | .local _ .vmem, ⟨8, _⟩ => ⟨S1x2048x512, .bf16⟩
  | .local _ .vmem, ⟨9, _⟩ => ⟨S1x2048x512, .bf16⟩
  | _, _ => ⟨S16x2048x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_c : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_0 : Ref sig .tc := ⟨.hbm, 61, rfl⟩
abbrev main_call1_v12 : Ref sig .tc := ⟨.hbm, 62, rfl⟩
abbrev main_call1_v13 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_c_7 : Ref sig .tc := ⟨.hbm, 68, rfl⟩
abbrev main_v25 : Ref sig .tc := ⟨.hbm, 69, rfl⟩
abbrev main_v26 : Ref sig .tc := ⟨.hbm, 70, rfl⟩
abbrev main_c_8 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_9 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_10 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v43 : Ref sig .tc := ⟨.hbm, 93, rfl⟩
abbrev main_v44 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2048x15360 : Shape := ⟨3, ![16, 2048, 15360]⟩
abbrev S8x513 : Shape := ⟨2, ![8, 513]⟩
abbrev S16x2048x1024 : Shape := ⟨3, ![16, 2048, 1024]⟩
abbrev S16x32x64x8x128 : Shape := ⟨5, ![16, 32, 64, 8, 128]⟩
abbrev S_ : Shape := ⟨0, ![]⟩
abbrev S16x40x64x8x128 : Shape := ⟨5, ![16, 40, 64, 8, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S16x32x9x64x8x128 : Shape := ⟨6, ![16, 32, 9, 64, 8, 128]⟩
abbrev S16x32x576x8x128 : Shape := ⟨5, ![16, 32, 576, 8, 128]⟩
abbrev S32x9x64 : Shape := ⟨3, ![32, 9, 64]⟩
abbrev S32x576 : Shape := ⟨2, ![32, 576]⟩
abbrev S64 : Shape := ⟨1, ![64]⟩
abbrev S64x1x1 : Shape := ⟨3, ![64, 1, 1]⟩
abbrev S1x9x1 : Shape := ⟨3, ![1, 9, 1]⟩
abbrev S1x1x64 : Shape := ⟨3, ![1, 1, 64]⟩
abbrev S64x9x1 : Shape := ⟨3, ![64, 9, 1]⟩
abbrev S64x9x64 : Shape := ⟨3, ![64, 9, 64]⟩
abbrev S64x576 : Shape := ⟨2, ![64, 576]⟩
abbrev S64x576x1 : Shape := ⟨3, ![64, 576, 1]⟩
abbrev S8x64x576 : Shape := ⟨3, ![8, 64, 576]⟩
abbrev S16x32x8x64x576 : Shape := ⟨5, ![16, 32, 8, 64, 576]⟩
abbrev S1x1x8x64x576 : Shape := ⟨5, ![1, 1, 8, 64, 576]⟩
abbrev S1x32x1x1x576 : Shape := ⟨5, ![1, 32, 1, 1, 576]⟩
abbrev S16x32x8x64 : Shape := ⟨4, ![16, 32, 8, 64]⟩
abbrev S16x32x8x64x1 : Shape := ⟨5, ![16, 32, 8, 64, 1]⟩
abbrev S16x32x8x128x64 : Shape := ⟨5, ![16, 32, 8, 128, 64]⟩

abbrev nBuf : Space → Nat
  | .hbm => 117
  | .vmem => 0
  | .smem => 0
  | _ => 0

abbrev bufTy : (tb : Table) → Fin (tcTables nBuf tb) → BufTy
  | .hbm, ⟨0, _⟩ => ⟨S16x2048x15360, .bf16⟩
  | .hbm, ⟨1, _⟩ => ⟨S8x513, .f32⟩
  | .hbm, ⟨2, _⟩ => ⟨S16x2048x15360, .f32⟩
  | .hbm, ⟨3, _⟩ => ⟨S16x2048x1024, .f32⟩
  | .hbm, ⟨4, _⟩ => ⟨S16x2048x1024, .f32⟩
  | .hbm, ⟨5, _⟩ => ⟨S16x2048x1024, .f32⟩
  | .hbm, ⟨6, _⟩ => ⟨S16x32x64x8x128, .f32⟩
  | .hbm, ⟨7, _⟩ => ⟨S16x32x64x8x128, .f32⟩
  | .hbm, ⟨8, _⟩ => ⟨S_, .i32⟩
  | .hbm, ⟨9, _⟩ => ⟨S_, .f32⟩
  | .hbm, ⟨10, _⟩ => ⟨S16x40x64x8x128, .f32⟩
  | .hbm, ⟨11, _⟩ => ⟨S16x32x64x8x128, .f32⟩
  | .hbm, ⟨12, _⟩ => ⟨S_, .i32⟩
  | .hbm, ⟨13, _⟩ => ⟨S_, .f32⟩
  | .hbm, ⟨14, _⟩ => ⟨S16x40x64x8x128, .f32⟩
  | .hbm, ⟨15, _⟩ => ⟨S32, .i32⟩
  | .hbm, ⟨16, _⟩ => ⟨S32x1, .i32⟩
  | .hbm, ⟨17, _⟩ => ⟨S9, .i32⟩
  | .hbm, ⟨18, _⟩ => ⟨S1x9, .i32⟩
  | .hbm, ⟨19, _⟩ => ⟨S32x9, .i32⟩
  | .hbm, ⟨20, _⟩ => ⟨S32x9, .i32⟩
  | .hbm, ⟨21, _⟩ => ⟨S32x9, .i32⟩
  | .hbm, ⟨22, _⟩ => ⟨S_, .i32⟩
  | .hbm, ⟨23, _⟩ => ⟨S32x9, .i32⟩
  | .hbm, ⟨24, _⟩ => ⟨S32x9, .i1⟩
  | .hbm, ⟨25, _⟩ => ⟨S_, .i32⟩
  | .hbm, ⟨26, _⟩ => ⟨S32x9, .i32⟩
  | .hbm, ⟨27, _⟩ => ⟨S32x9, .i32⟩
  | .hbm, ⟨28, _⟩ => ⟨S32x9, .i32⟩
  | .hbm, ⟨29, _⟩ => ⟨S32x9x1, .i32⟩
  | .hbm, ⟨30, _⟩ => ⟨S16x32x9x64x8x128, .f32⟩
  | .hbm, ⟨31, _⟩ => ⟨S16x32x576x8x128, .f32⟩
  | .hbm, ⟨32, _⟩ => ⟨S_, .i32⟩
  | .hbm, ⟨33, _⟩ => ⟨S32x9, .i32⟩
  | .hbm, ⟨34, _⟩ => ⟨S32x9, .i1⟩
  | .hbm, ⟨35, _⟩ => ⟨S_, .i32⟩
  | .hbm, ⟨36, _⟩ => ⟨S32x9, .i32⟩
  | .hbm, ⟨37, _⟩ => ⟨S32x9, .i32⟩
  | .hbm, ⟨38, _⟩ => ⟨S32x9, .i32⟩
  | .hbm, ⟨39, _⟩ => ⟨S32x9x1, .i32⟩
  | .hbm, ⟨40, _⟩ => ⟨S16x32x9x64x8x128, .f32⟩
  | .hbm, ⟨41, _⟩ => ⟨S16x32x576x8x128, .f32⟩
  | .hbm, ⟨42, _⟩ => ⟨S_, .i32⟩
  | .hbm, ⟨43, _⟩ => ⟨S32x9, .i32⟩
  | .hbm, ⟨44, _⟩ => ⟨S32x9, .i1⟩
  | .hbm, ⟨45, _⟩ => ⟨S32x9x64, .i1⟩
  | .hbm, ⟨46, _⟩ => ⟨S32x576, .i1⟩
  | .hbm, ⟨47, _⟩ => ⟨S64, .i32⟩
  | .hbm, ⟨48, _⟩ => ⟨S64x1x1, .i32⟩
  | .hbm, ⟨49, _⟩ => ⟨S9, .i32⟩
  | .hbm, ⟨50, _⟩ => ⟨S1x9x1, .i32⟩
  | .hbm, ⟨51, _⟩ => ⟨S64, .i32⟩
  | .hbm, ⟨52, _⟩ => ⟨S1x1x64, .i32⟩
  | .hbm, ⟨53, _⟩ => ⟨S_, .i32⟩
  | .hbm, ⟨54, _⟩ => ⟨S1x9x1, .i32⟩
  | .hbm, ⟨55, _⟩ => ⟨S1x9x1, .i32⟩
  | .hbm, ⟨56, _⟩ => ⟨S_, .i32⟩
  | .hbm, ⟨57, _⟩ => ⟨S1x9x1, .i32⟩
  | .hbm, ⟨58, _⟩ => ⟨S1x9x1, .i32⟩
  | .hbm, ⟨59, _⟩ => ⟨S64x9x1, .i32⟩
  | .hbm, ⟨60, _⟩ => ⟨S64x9x1, .i32⟩
  | .hbm, ⟨61, _⟩ => ⟨S64x9x1, .i32⟩
  | .hbm, ⟨62, _⟩ => ⟨S64x9x64, .i32⟩
  | .hbm, ⟨63, _⟩ => ⟨S64x9x64, .i32⟩
  | .hbm, ⟨64, _⟩ => ⟨S64x9x64, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S64x9x64, .i32⟩
  | .hbm, ⟨69, _⟩ => ⟨S64x9x64, .i32⟩
  | .hbm, ⟨70, _⟩ => ⟨S_, .i32⟩
  | .hbm, ⟨71, _⟩ => ⟨S64x9x64, .i32⟩
  | .hbm, ⟨72, _⟩ => ⟨S64x9x64, .i32⟩
  | .hbm, ⟨73, _⟩ => ⟨S_, .i32⟩
  | .hbm, ⟨74, _⟩ => ⟨S64x9x64, .i32⟩
  | .hbm, ⟨75, _⟩ => ⟨S64x9x64, .i32⟩
  | .hbm, ⟨76, _⟩ => ⟨S64x576, .i32⟩
  | .hbm, ⟨77, _⟩ => ⟨S_, .i32⟩
  | .hbm, ⟨78, _⟩ => ⟨S64x576, .i32⟩
  | .hbm, ⟨79, _⟩ => ⟨S64x576, .i1⟩
  | .hbm, ⟨80, _⟩ => ⟨S_, .i32⟩
  | .hbm, ⟨81, _⟩ => ⟨S64x576, .i32⟩
  | .hbm, ⟨82, _⟩ => ⟨S64x576, .i32⟩
  | .hbm, ⟨83, _⟩ => ⟨S64x576, .i32⟩
  | .hbm, ⟨84, _⟩ => ⟨S64x576x1, .i32⟩
  | .hbm, ⟨85, _⟩ => ⟨S8x64x576, .f32⟩
  | .hbm, ⟨86, _⟩ => ⟨S16x32x8x64x576, .f32⟩
  | .hbm, ⟨87, _⟩ => ⟨S_, .f32⟩
  | .hbm, ⟨88, _⟩ => ⟨S16x32x8x64x576, .f32⟩
  | .hbm, ⟨89, _⟩ => ⟨S16x32x8x64x576, .f32⟩
  | .hbm, ⟨90, _⟩ => ⟨S1x1x8x64x576, .f32⟩
  | .hbm, ⟨91, _⟩ => ⟨S16x32x8x64x576, .f32⟩
  | .hbm, ⟨92, _⟩ => ⟨S16x32x8x64x576, .f32⟩
  | .hbm, ⟨93, _⟩ => ⟨S1x32x1x1x576, .i1⟩
  | .hbm, ⟨94, _⟩ => ⟨S_, .f32⟩
  | .hbm, ⟨95, _⟩ => ⟨S_, .f32⟩
  | .hbm, ⟨96, _⟩ => ⟨S16x32x8x64x576, .i1⟩
  | .hbm, ⟨97, _⟩ => ⟨S16x32x8x64x576, .f32⟩
  | .hbm, ⟨98, _⟩ => ⟨S16x32x8x64x576, .f32⟩
  | .hbm, ⟨99, _⟩ => ⟨S_, .f32⟩
  | .hbm, ⟨100, _⟩ => ⟨S16x32x8x64, .f32⟩
  | .hbm, ⟨101, _⟩ => ⟨S_, .f32⟩
  | .hbm, ⟨102, _⟩ => ⟨S16x32x8x64, .f32⟩
  | .hbm, ⟨103, _⟩ => ⟨S16x32x8x64, .f32⟩
  | .hbm, ⟨104, _⟩ => ⟨S16x32x8x64x1, .f32⟩
  | .hbm, ⟨105, _⟩ => ⟨S16x32x8x64x576, .f32⟩
  | .hbm, ⟨106, _⟩ => ⟨S16x32x8x64x576, .f32⟩
  | .hbm, ⟨107, _⟩ => ⟨S16x32x8x64x576, .f32⟩
  | .hbm, ⟨108, _⟩ => ⟨S_, .f32⟩
  | .hbm, ⟨109, _⟩ => ⟨S16x32x8x64, .f32⟩
  | .hbm, ⟨110, _⟩ => ⟨S16x32x8x64x1, .f32⟩
  | .hbm, ⟨111, _⟩ => ⟨S16x32x8x64x576, .f32⟩
  | .hbm, ⟨112, _⟩ => ⟨S16x32x8x64x576, .f32⟩
  | .hbm, ⟨113, _⟩ => ⟨S16x32x8x128x64, .f32⟩
  | .hbm, ⟨114, _⟩ => ⟨S16x32x64x8x128, .f32⟩
  | .hbm, ⟨115, _⟩ => ⟨S16x2048x1024, .f32⟩
  | .hbm, ⟨116, _⟩ => ⟨S16x2048x1024, .bf16⟩
  | _, _ => ⟨S16x2048x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_8 : Ref sig .tc := ⟨.hbm, 65, rfl⟩
abbrev main_c_9 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Kernel2.lean ====
abbrev S32768x2048 : Shape := ⟨2, ![32768, 2048]⟩
abbrev S2x2048x8192 : Shape := ⟨3, ![2, 2048, 8192]⟩
abbrev S2x8192x2048 : Shape := ⟨3, ![2, 8192, 2048]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S32768x2048, .bf16⟩
  | .hbm, ⟨1, _⟩ => ⟨S2x2048x8192, .f32⟩
  | .hbm, ⟨2, _⟩ => ⟨S2x8192x2048, .f32⟩
  | .hbm, ⟨3, _⟩ => ⟨S2x2048x8192, .bf16⟩
  | .hbm, ⟨4, _⟩ => ⟨S2x8192x2048, .bf16⟩
  | .hbm, ⟨5, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S32768x2048 : Shape := ⟨2, ![32768, 2048]⟩
abbrev S2x2048x8192 : Shape := ⟨3, ![2, 2048, 8192]⟩
abbrev S2x8192x2048 : Shape := ⟨3, ![2, 8192, 2048]⟩
abbrev S1x2048x8192 : Shape := ⟨3, ![1, 2048, 8192]⟩
abbrev S2048x8192 : Shape := ⟨2, ![2048, 8192]⟩
abbrev S32768x8192 : Shape := ⟨2, ![32768, 8192]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2x2048x8192, .f32⟩
  | .hbm, ⟨2, _⟩ => ⟨S2x8192x2048, .f32⟩
  | .hbm, ⟨3, _⟩ => ⟨S32768x2048, .f32⟩
  | .hbm, ⟨4, _⟩ => ⟨S1x2048x8192, .f32⟩
  | .hbm, ⟨5, _⟩ => ⟨S2048x8192, .f32⟩
  | .hbm, ⟨6, _⟩ => ⟨S32768x8192, .f32⟩
  | .hbm, ⟨7, _⟩ => ⟨S_, .f32⟩
  | .hbm, ⟨8, _⟩ => ⟨S32768x8192, .f32⟩
  | .hbm, ⟨9, _⟩ => ⟨S32768x8192, .f32⟩
  | .hbm, ⟨10, _⟩ => ⟨S32768x8192, .f32⟩
  | .hbm, ⟨11, _⟩ => ⟨S1x8192x2048, .f32⟩
  | .hbm, ⟨12, _⟩ => ⟨S8192x2048, .f32⟩
  | .hbm, ⟨13, _⟩ => ⟨S32768x2048, .f32⟩
  | .hbm, ⟨14, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S32768x2048 : Shape := ⟨2, ![32768, 2048]⟩
abbrev S2x2048 : Shape := ⟨2, ![2, 2048]⟩
abbrev S2x2048x16384 : Shape := ⟨3, ![2, 2048, 16384]⟩
abbrev S_ : Shape := ⟨0, ![]⟩
abbrev S16384 : Shape := ⟨1, ![16384]⟩
abbrev S1 : Shape := ⟨1, ![1]⟩
abbrev S1024 : Shape := ⟨1, ![1024]⟩
abbrev S1x1x16384 : Shape := ⟨3, ![1, 1, 16384]⟩
abbrev S1x2048 : Shape := ⟨2, ![1, 2048]⟩
abbrev S2048 : Shape := ⟨1, ![2048]⟩
abbrev S32768x15360 : Shape := ⟨2, ![32768, 15360]⟩
abbrev S32768x1024 : Shape := ⟨2, ![32768, 1024]⟩
abbrev S1024x2048 : Shape := ⟨2, ![1024, 2048]⟩
abbrev S1x2048x1024 : Shape := ⟨3, ![1, 2048, 1024]⟩
abbrev S1024x1024 : Shape := ⟨2, ![1024, 1024]⟩
abbrev S1024x1 : Shape := ⟨2, ![1024, 1]⟩
abbrev S2048x1024 : Shape := ⟨2, ![2048, 1024]⟩

abbrev nBuf : Space → Nat
  | .hbm => 19
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x16384, .f32⟩
  | .hbm, ⟨3, _⟩ => ⟨S_, .f32⟩
  | .hbm, ⟨4, _⟩ => ⟨S16384, .f32⟩
  | .hbm, ⟨5, _⟩ => ⟨S_, .i32⟩
  | .hbm, ⟨6, _⟩ => ⟨S1, .i32⟩
  | .hbm, ⟨7, _⟩ => ⟨S_, .f32⟩
  | .hbm, ⟨8, _⟩ => ⟨S1024, .f32⟩
  | .hbm, ⟨9, _⟩ => ⟨S16384, .f32⟩
  | .hbm, ⟨10, _⟩ => ⟨S1x1x16384, .f32⟩
  | .hbm, ⟨11, _⟩ => ⟨S2x2048x16384, .f32⟩
  | .hbm, ⟨12, _⟩ => ⟨S2x2048x16384, .f32⟩
  | .hbm, ⟨13, _⟩ => ⟨S2x2048x16384, .bf16⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S32768x15360, .bf16⟩
  | .hbm, ⟨18, _⟩ => ⟨S32768x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c4_i32 : BitVec 32 := 4#32
  let v3 : BitVec 1 := Scalar.cmpi .ne arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c1_i32 : BitVec 32 := 1#32
  let v1 : BitVec 32 := Scalar.subi arg1 c1_i32
  let c3_i32 : BitVec 32 := 3#32
  let v2 : BitVec 32 := Scalar.maxsi v1 c3_i32
  let v3 : BitVec 32 := Scalar.select v0 arg1 v2
  let c6_i32 : BitVec 32 := 6#32
  let v4 : BitVec 32 := Scalar.addi c6_i32 v3
  let c10_i32 : BitVec 32 := 10#32
  let v5 : BitVec 1 := Scalar.cmpi .sge arg1 c10_i32
  let c10_i32_0 : BitVec 32 := 10#32
  let v6 : BitVec 32 := Scalar.subi arg1 c10_i32_0
  let v7 : BitVec 32 := Scalar.select v5 v6 v4
  let c0_i32 : BitVec 32 := 0#32
  ![arg0.toNat, v7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S32768x2048 : Shape := ⟨2, ![32768, 2048]⟩
abbrev S2x2048 : Shape := ⟨2, ![2, 2048]⟩
abbrev S2x2048x16384 : Shape := ⟨3, ![2, 2048, 16384]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x16384 : Shape := ⟨3, ![1, 2048, 16384]⟩
abbrev S2048x16384 : Shape := ⟨2, ![2048, 16384]⟩
abbrev S32768x16384 : Shape := ⟨2, ![32768, 16384]⟩
abbrev S32768x1024 : Shape := ⟨2, ![32768, 1024]⟩
abbrev S32768x6144 : Shape := ⟨2, ![32768, 6144]⟩
abbrev S32768x15360 : Shape := ⟨2, ![32768, 15360]⟩

abbrev nBuf : Space → Nat
  | .hbm => 40
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x16384, .f32⟩
  | .hbm, ⟨3, _⟩ => ⟨S1x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x16384, .f32⟩
  | .hbm, ⟨22, _⟩ => ⟨S2048x16384, .f32⟩
  | .hbm, ⟨23, _⟩ => ⟨S32768x16384, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x6144, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x15360, .f32⟩
  | .hbm, ⟨39, _⟩ => ⟨S32768x15360, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel4.lean ====
abbrev S32768x15360 : Shape := ⟨2, ![32768, 15360]⟩
abbrev S32768x1024 : Shape := ⟨2, ![32768, 1024]⟩
abbrev S32768x2048 : Shape := ⟨2, ![32768, 2048]⟩
abbrev S3x1024 : Shape := ⟨2, ![3, 1024]⟩
abbrev S128 : Shape := ⟨1, ![128]⟩
abbrev S2x3x1024x2048 : Shape := ⟨4, ![2, 3, 1024, 2048]⟩
abbrev S2x2048x2048 : Shape := ⟨3, ![2, 2048, 2048]⟩
abbrev S2x2048 : Shape := ⟨2, ![2, 2048]⟩
abbrev S1x2048 : Shape := ⟨2, ![1, 2048]⟩
abbrev S2048 : Shape := ⟨1, ![2048]⟩
abbrev S1x128 : Shape := ⟨2, ![1, 128]⟩
abbrev S256x1024 : Shape := ⟨2, ![256, 1024]⟩
abbrev S8x1024 : Shape := ⟨2, ![8, 1024]⟩
abbrev S256x2048 : Shape := ⟨2, ![256, 2048]⟩
abbrev S1x3x1024x2048 : Shape := ⟨4, ![1, 3, 1024, 2048]⟩
abbrev S1x2048x2048 : Shape := ⟨3, ![1, 2048, 2048]⟩
abbrev S1x1024 : Shape := ⟨2, ![1, 1024]⟩
abbrev S256x128 : Shape := ⟨2, ![256, 128]⟩
abbrev S256 : Shape := ⟨1, ![256]⟩
abbrev S256x1 : Shape := ⟨2, ![256, 1]⟩
abbrev S1x1x1024x2048 : Shape := ⟨4, ![1, 1, 1024, 2048]⟩
abbrev S1024x2048 : Shape := ⟨2, ![1024, 2048]⟩
abbrev S2048x2048 : Shape := ⟨2, ![2048, 2048]⟩

abbrev nBuf : Space → Nat
  | .hbm => 17
  | .vmem => 33
  | .smem => 0
  | _ => 0

abbrev bufTy : (tb : Table) → Fin (tcTables nBuf tb) → BufTy
  | .hbm, ⟨0, _⟩ => ⟨S32768x15360, .bf16⟩
  | .hbm, ⟨1, _⟩ => ⟨S32768x1024, .bf16⟩
  | .hbm, ⟨2, _⟩ => ⟨S32768x1024, .bf16⟩
  | .hbm, ⟨3, _⟩ => ⟨S32768x2048, .f32⟩
  | .hbm, ⟨4, _⟩ => ⟨S3x1024, .f32⟩
  | .hbm, ⟨5, _⟩ => ⟨S128, .f32⟩
  | .hbm, ⟨6, _⟩ => ⟨S2x3x1024x2048, .f32⟩
  | .hbm, ⟨7, _⟩ => ⟨S2x2048x2048, .f32⟩
  | .hbm, ⟨8, _⟩ => ⟨S2x2048, .f32⟩
  | .hbm, ⟨9, _⟩ => ⟨S2x3x1024x2048, .bf16⟩
  | .hbm, ⟨10, _⟩ => ⟨S2x2048x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S1x128, .f32⟩
  | .hbm, ⟨15, _⟩ => ⟨S32768x2048, .f32⟩
  | .hbm, ⟨16, _⟩ => ⟨S32768x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S8x1024, .bf16⟩
  | .local _ .vmem, ⟨7, _⟩ => ⟨S8x1024, .bf16⟩
  | .local _ .vmem, ⟨8, _⟩ => ⟨S8x1024, .bf16⟩
  | .local _ .vmem, ⟨9, _⟩ => ⟨S8x1024, .bf16⟩
  | .local _ .vmem, ⟨10, _⟩ => ⟨S3x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S1x128, .f32⟩
  | .local _ .vmem, ⟨16, _⟩ => ⟨S256x1024, .bf16⟩
  | .local _ .vmem, ⟨17, _⟩ => ⟨S256x1024, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .f32⟩
  | .local _ .vmem, ⟨25, _⟩ => ⟨S256x2048, .f32⟩
  | .local _ .vmem, ⟨26, _⟩ => ⟨S1x3x1024x2048, .bf16⟩
  | .local _ .vmem, ⟨27, _⟩ => ⟨S1x2048x2048, .bf16⟩
  | .local _ .vmem, ⟨28, _⟩ => ⟨S1x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .bf16⟩
  | .local _ .vmem, ⟨32, _⟩ => ⟨S256x2048, .bf16⟩
  | _, _ => ⟨S32768x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x3x1024x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S32768x15360 : Shape := ⟨2, ![32768, 15360]⟩
abbrev S32768x1024 : Shape := ⟨2, ![32768, 1024]⟩
abbrev S32768x2048 : Shape := ⟨2, ![32768, 2048]⟩
abbrev S3x1024 : Shape := ⟨2, ![3, 1024]⟩
abbrev S128 : Shape := ⟨1, ![128]⟩
abbrev S2x3x1024x2048 : Shape := ⟨4, ![2, 3, 1024, 2048]⟩
abbrev S2x2048x2048 : Shape := ⟨3, ![2, 2048, 2048]⟩
abbrev S2x2048 : Shape := ⟨2, ![2, 2048]⟩
abbrev S16x2048x1024 : Shape := ⟨3, ![16, 2048, 1024]⟩
abbrev S_ : Shape := ⟨0, ![]⟩
abbrev S16x2050x1024 : Shape := ⟨3, ![16, 2050, 1024]⟩
abbrev S1x1024 : Shape := ⟨2, ![1, 1024]⟩
abbrev S1024 : Shape := ⟨1, ![1024]⟩
abbrev S1x1x1024 : Shape := ⟨3, ![1, 1, 1024]⟩
abbrev S32768x8x128 : Shape := ⟨3, ![32768, 8, 128]⟩
abbrev S32768x8 : Shape := ⟨2, ![32768, 8]⟩
abbrev S32768x8x1 : Shape := ⟨3, ![32768, 8, 1]⟩
abbrev S1x1x128 : Shape := ⟨3, ![1, 1, 128]⟩
abbrev S1x1x1024x2048 : Shape := ⟨4, ![1, 1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S32768 : Shape := ⟨1, ![32768]⟩
abbrev S32768x1 : Shape := ⟨2, ![32768, 1]⟩

abbrev nBuf : Space → Nat
  | .hbm => 135
  | .vmem => 0
  | .smem => 0
  | _ => 0

abbrev hbmTy0_0 (i : Nat) : BufTy := match i % 128 with
  | 0 => ⟨S32768x15360, .bf16⟩
  | 1 => ⟨S32768x1024, .bf16⟩
  | 2 => ⟨S32768x1024, .bf16⟩
  | 3 => ⟨S32768x2048, .f32⟩
  | 4 => ⟨S3x1024, .f32⟩
  | 5 => ⟨S128, .f32⟩
  | 6 => ⟨S2x3x1024x2048, .f32⟩
  | 7 => ⟨S2x2048x2048, .f32⟩
  | 8 => ⟨S2x2048, .f32⟩
  | 9 => ⟨S32768x15360, .f32⟩
  | 10 => ⟨S32768x2048, .f32⟩
  | 11 => ⟨S32768x2048, .f32⟩
  | 12 => ⟨S32768x2048, .f32⟩
  | 13 => ⟨S32768x1024, .f32⟩
  | 14 => ⟨S32768x1024, .f32⟩
  | 15 => ⟨S32768x1024, .f32⟩
  | 16 => ⟨S32768x1024, .f32⟩
  | 17 => ⟨S32768x1024, .f32⟩
  | 18 => ⟨S16x2048x1024, .f32⟩
  | 19 => ⟨S_, .i32⟩
  | 20 => ⟨S_, .f32⟩
  | 21 => ⟨S16x2050x1024, .f32⟩
  | 22 => ⟨S16x2048x1024, .f32⟩
  | 23 => ⟨S1x1024, .f32⟩
  | 24 => ⟨S1024, .f32⟩
  | 25 => ⟨S1x1x1024, .f32⟩
  | 26 => ⟨S16x2048x1024, .f32⟩
  | 27 => ⟨S16x2048x1024, .f32⟩
  | 28 => ⟨S16x2048x1024, .f32⟩
  | 29 => ⟨S1x1024, .f32⟩
  | 30 => ⟨S1024, .f32⟩
  | 31 => ⟨S1x1x1024, .f32⟩
  | 32 => ⟨S16x2048x1024, .f32⟩
  | 33 => ⟨S16x2048x1024, .f32⟩
  | 34 => ⟨S16x2048x1024, .f32⟩
  | 35 => ⟨S16x2048x1024, .f32⟩
  | 36 => ⟨S1x1024, .f32⟩
  | 37 => ⟨S1024, .f32⟩
  | 38 => ⟨S1x1x1024, .f32⟩
  | 39 => ⟨S16x2048x1024, .f32⟩
  | 40 => ⟨S16x2048x1024, .f32⟩
  | 41 => ⟨S16x2048x1024, .f32⟩
  | 42 => ⟨S32768x1024, .f32⟩
  | 43 => ⟨S32768x1024, .f32⟩
  | 44 => ⟨S32768x1024, .f32⟩
  | 45 => ⟨S32768x8x128, .f32⟩
  | 46 => ⟨S32768x8x128, .f32⟩
  | 47 => ⟨S_, .f32⟩
  | 48 => ⟨S32768x8, .f32⟩
  | 49 => ⟨S32768x8x1, .f32⟩
  | 50 => ⟨S_, .f32⟩
  | 51 => ⟨S32768x8x1, .f32⟩
  | 52 => ⟨S32768x8x1, .f32⟩
  | 53 => ⟨S_, .f32⟩
  | 54 => ⟨S32768x8x1, .f32⟩
  | 55 => ⟨S32768x8x1, .f32⟩
  | 56 => ⟨S32768x8x1, .f32⟩
  | 57 => ⟨S32768x8x128, .f32⟩
  | 58 => ⟨S32768x8x128, .f32⟩
  | 59 => ⟨S1x1x128, .f32⟩
  | 60 => ⟨S32768x8x128, .f32⟩
  | 61 => ⟨S32768x8x128, .f32⟩
  | 62 => ⟨S32768x1024, .f32⟩
  | 63 => ⟨S32768x1024, .f32⟩
  | 64 => ⟨S32768x1024, .f32⟩
  | 65 => ⟨S_, .f32⟩
  | 66 => ⟨S32768x1024, .f32⟩
  | 67 => ⟨S32768x1024, .f32⟩
  | 68 => ⟨S_, .f32⟩
  | 69 => ⟨S32768x1024, .f32⟩
  | 70 => ⟨S32768x1024, .f32⟩
  | 71 => ⟨S32768x1024, .f32⟩
  | 72 => ⟨S32768x1024, .f32⟩
  | 73 => ⟨S32768x2048, .f32⟩
  | 74 => ⟨S32768x2048, .f32⟩
  | 75 => ⟨S_, .f32⟩
  | 76 => ⟨S32768x2048, .f32⟩
  | 77 => ⟨S32768x2048, .f32⟩
  | 78 => ⟨S_, .f32⟩
  | 79 => ⟨S32768x2048, .f32⟩
  | 80 => ⟨S32768x2048, .f32⟩
  | 81 => ⟨S1x1x1024x2048, .f32⟩
  | 82 => ⟨S1024x2048, .f32⟩
  | 83 => ⟨S32768x2048, .f32⟩
  | 84 => ⟨S32768x2048, .f32⟩
  | 85 => ⟨S32768x2048, .f32⟩
  | 86 => ⟨S32768x2048, .f32⟩
  | 87 => ⟨S_, .f32⟩
  | 88 => ⟨S32768x2048, .f32⟩
  | 89 => ⟨S32768x2048, .f32⟩
  | 90 => ⟨S_, .f32⟩
  | 91 => ⟨S32768x2048, .f32⟩
  | 92 => ⟨S32768x2048, .f32⟩
  | 93 => ⟨S1x1x1024x2048, .f32⟩
  | 94 => ⟨S1024x2048, .f32⟩
  | 95 => ⟨S32768x2048, .f32⟩
  | 96 => ⟨S32768x2048, .f32⟩
  | 97 => ⟨S32768x2048, .f32⟩
  | 98 => ⟨S32768x2048, .f32⟩
  | 99 => ⟨S32768x2048, .f32⟩
  | 100 => ⟨S_, .f32⟩
  | 101 => ⟨S32768x2048, .f32⟩
  | 102 => ⟨S32768x2048, .f32⟩
  | 103 => ⟨S_, .f32⟩
  | 104 => ⟨S32768x2048, .f32⟩
  | 105 => ⟨S32768x2048, .f32⟩
  | 106 => ⟨S32768x1024, .f32⟩
  | 107 => ⟨S1x1x1024x2048, .f32⟩
  | 108 => ⟨S1024x2048, .f32⟩
  | 109 => ⟨S32768x2048, .f32⟩
  | 110 => ⟨S32768x2048, .f32⟩
  | 111 => ⟨S32768x2048, .f32⟩
  | 112 => ⟨S1x2048x2048, .f32⟩
  | 113 => ⟨S2048x2048, .f32⟩
  | 114 => ⟨S32768x2048, .f32⟩
  | 115 => ⟨S32768x2048, .f32⟩
  | 116 => ⟨S1x2048, .f32⟩
  | 117 => ⟨S2048, .f32⟩
  | 118 => ⟨S32768x2048, .f32⟩
  | 119 => ⟨S_, .f32⟩
  | 120 => ⟨S32768, .f32⟩
  | 121 => ⟨S32768x1, .f32⟩
  | 122 => ⟨S_, .f32⟩
  | 123 => ⟨S32768x1, .f32⟩
  | 124 => ⟨S32768x1, .f32⟩
  | 125 => ⟨S_, .f32⟩
  | 126 => ⟨S32768x1, .f32⟩
  | 127 => ⟨S32768x1, .f32⟩
  | _ => ⟨S32768x15360, .bf16⟩

abbrev hbmTy0_1 (i : Nat) : BufTy := match i % 128 with
  | 0 => ⟨S32768x1, .f32⟩
  | 1 => ⟨S32768x2048, .f32⟩
  | 2 => ⟨S32768x2048, .f32⟩
  | 3 => ⟨S1x2048, .f32⟩
  | 4 => ⟨S32768x2048, .f32⟩
  | 5 => ⟨S32768x2048, .f32⟩
  | 6 => ⟨S32768x2048, .bf16⟩
  | _ => ⟨S32768x15360, .bf16⟩

abbrev hbmTy (i : Nat) : BufTy := match i / 128 with
  | 0 => hbmTy0_0 i
  | 1 => hbmTy0_1 i
  | _ => ⟨S32768x15360, .bf16⟩

abbrev bufTy : (tb : Table) → Fin (tcTables nBuf tb) → BufTy
  | .hbm, ⟨i, _⟩ => hbmTy i
  | _, _ => ⟨S32768x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst : Ref sig .tc := ⟨.hbm, 47, rfl⟩
abbrev main_v36 : Ref sig .tc := ⟨.hbm, 48, rfl⟩
abbrev main_v37 : Ref sig .tc := ⟨.hbm, 49, rfl⟩
abbrev main_cst_0 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_2 : Ref sig .tc := ⟨.hbm, 75, rfl⟩
abbrev main_v53 : Ref sig .tc := ⟨.hbm, 76, rfl⟩
abbrev main_v54 : Ref sig .tc := ⟨.hbm, 77, rfl⟩
abbrev main_cst_3 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_4 : Ref sig .tc := ⟨.hbm, 87, rfl⟩
abbrev main_v63 : Ref sig .tc := ⟨.hbm, 88, rfl⟩
abbrev main_v64 : Ref sig .tc := ⟨.hbm, 89, rfl⟩
abbrev main_cst_5 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_6 : Ref sig .tc := ⟨.hbm, 100, rfl⟩
abbrev main_v74 : Ref sig .tc := ⟨.hbm, 101, rfl⟩
abbrev main_v75 : Ref sig .tc := ⟨.hbm, 102, rfl⟩
abbrev main_cst_7 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_8 : Ref sig .tc := ⟨.hbm, 119, rfl⟩
abbrev main_v91 : Ref sig .tc := ⟨.hbm, 120, rfl⟩
abbrev main_v92 : Ref sig .tc := ⟨.hbm, 121, rfl⟩
abbrev main_cst_9 : Ref sig .tc := ⟨.hbm, 122, rfl⟩
abbrev main_v93 : Ref sig .tc := ⟨.hbm, 123, rfl⟩
abbrev main_v94 : Ref sig .tc := ⟨.hbm, 124, rfl⟩
abbrev main_cst_10 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩

abbrev nD : Nat := 1
abbrev τ : Topo := Topo.v7x

variable {F : FTy → Type} [FloatOps F]
-- ==== Kernel5.lean ====
abbrev S32768x2048 : Shape := ⟨2, ![32768, 2048]⟩
abbrev S2x2048 : Shape := ⟨2, ![2, 2048]⟩
abbrev S2x2048x2048 : Shape := ⟨3, ![2, 2048, 2048]⟩
abbrev S2x16x2048x256 : Shape := ⟨4, ![2, 16, 2048, 256]⟩
abbrev S2x256x2048 : Shape := ⟨3, ![2, 256, 2048]⟩
abbrev S2048 : Shape := ⟨1, ![2048]⟩
abbrev S2x32768x256 : Shape := ⟨3, ![2, 32768, 256]⟩
abbrev S1x2048 : Shape := ⟨2, ![1, 2048]⟩
abbrev S512x2048 : Shape := ⟨2, ![512, 2048]⟩
abbrev S1x2048x2048 : Shape := ⟨3, ![1, 2048, 2048]⟩
abbrev S1x512x256 : Shape := ⟨3, ![1, 512, 256]⟩
abbrev S1x256x2048 : Shape := ⟨3, ![1, 256, 2048]⟩
abbrev S512 : Shape := ⟨1, ![512]⟩
abbrev S512x1 : Shape := ⟨2, ![512, 1]⟩
abbrev S2048x2048 : Shape := ⟨2, ![2048, 2048]⟩
abbrev S512x256 : Shape := ⟨2, ![512, 256]⟩
abbrev S256x2048 : Shape := ⟨2, ![256, 2048]⟩

abbrev nBuf : Space → Nat
  | .hbm => 15
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2x2048, .f32⟩
  | .hbm, ⟨3, _⟩ => ⟨S2x2048x2048, .f32⟩
  | .hbm, ⟨4, _⟩ => ⟨S2x16x2048x256, .f32⟩
  | .hbm, ⟨5, _⟩ => ⟨S2x256x2048, .f32⟩
  | .hbm, ⟨6, _⟩ => ⟨S2048, .f32⟩
  | .hbm, ⟨7, _⟩ => ⟨S2x32768x256, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2x2048x2048, .bf16⟩
  | .hbm, ⟨12, _⟩ => ⟨S2x256x2048, .bf16⟩
  | .hbm, ⟨13, _⟩ => ⟨S1x2048, .f32⟩
  | .hbm, ⟨14, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048x2048, .bf16⟩
  | .local _ .vmem, ⟨6, _⟩ => ⟨S1x512x256, .f32⟩
  | .local _ .vmem, ⟨7, _⟩ => ⟨S1x512x256, .f32⟩
  | .local _ .vmem, ⟨8, _⟩ => ⟨S1x256x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S32768x2048 : Shape := ⟨2, ![32768, 2048]⟩
abbrev S2x2048 : Shape := ⟨2, ![2, 2048]⟩
abbrev S2x2048x2048 : Shape := ⟨3, ![2, 2048, 2048]⟩
abbrev S2x16x2048x256 : Shape := ⟨4, ![2, 16, 2048, 256]⟩
abbrev S2x256x2048 : Shape := ⟨3, ![2, 256, 2048]⟩
abbrev S2048 : Shape := ⟨1, ![2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S1x2048x2048 : Shape := ⟨3, ![1, 2048, 2048]⟩
abbrev S2048x2048 : Shape := ⟨2, ![2048, 2048]⟩
abbrev S1x16x2048x256 : Shape := ⟨4, ![1, 16, 2048, 256]⟩
abbrev S16x2048x256 : Shape := ⟨3, ![16, 2048, 256]⟩
abbrev S32768x256 : Shape := ⟨2, ![32768, 256]⟩
abbrev S1x256x2048 : Shape := ⟨3, ![1, 256, 2048]⟩
abbrev S256x2048 : Shape := ⟨2, ![256, 2048]⟩

abbrev nBuf : Space → Nat
  | .hbm => 62
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2x2048, .f32⟩
  | .hbm, ⟨3, _⟩ => ⟨S2x2048x2048, .f32⟩
  | .hbm, ⟨4, _⟩ => ⟨S2x16x2048x256, .f32⟩
  | .hbm, ⟨5, _⟩ => ⟨S2x256x2048, .f32⟩
  | .hbm, ⟨6, _⟩ => ⟨S2048, .f32⟩
  | .hbm, ⟨7, _⟩ => ⟨S32768x2048, .f32⟩
  | .hbm, ⟨8, _⟩ => ⟨S32768x2048, .f32⟩
  | .hbm, ⟨9, _⟩ => ⟨S1x2048, .f32⟩
  | .hbm, ⟨10, _⟩ => ⟨S2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S1x2048, .f32⟩
  | .hbm, ⟨25, _⟩ => ⟨S32768x2048, .f32⟩
  | .hbm, ⟨26, _⟩ => ⟨S32768x2048, .f32⟩
  | .hbm, ⟨27, _⟩ => ⟨S1x2048x2048, .f32⟩
  | .hbm, ⟨28, _⟩ => ⟨S2048x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S1x16x2048x256, .f32⟩
  | .hbm, ⟨39, _⟩ => ⟨S16x2048x256, .f32⟩
  | .hbm, ⟨40, _⟩ => ⟨S32768x256, .f32⟩
  | .hbm, ⟨41, _⟩ => ⟨S1x256x2048, .f32⟩
  | .hbm, ⟨42, _⟩ => ⟨S256x2048, .f32⟩
  | .hbm, ⟨43, _⟩ => ⟨S32768x2048, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x2048, .f32⟩
  | .hbm, ⟨58, _⟩ => ⟨S32768x2048, .f32⟩
  | .hbm, ⟨59, _⟩ => ⟨S1x2048, .f32⟩
  | .hbm, ⟨60, _⟩ => ⟨S32768x2048, .f32⟩
  | .hbm, ⟨61, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.Proj.BodyIdeal.lean ====
/- The input projection: the body at a grid point. -/
module

public import proofs.«01_k».proof.Proof.Gen.Kernel3Ideal.Frame
public import proofs.«01_k».proof.Proof.Gen.Kernel3Ideal.Skeleton
public import Idealize.ShloMosaic.Lib.VecWindow
public import Idealize.ShloMosaic.Lib.Claim

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The body's first condition: the point is its row block's first. -/
abbrev first (i : grid0.Coords) : Prop := (Scalar.cmpi .ne (Scalar.extui (Scalar.cmpi .eq (BitVec.ofNat 32 (i 1).val) 0#32)) 0#32) = 1#1

variable (c : Dev nD) (i : grid0.Coords) (arg2 : Memref sig .tc .vmem S1024x2048 .f32) (harg2 : arg2.IsWhole) (arg3 : Memref sig .tc .vmem S1x2048 .f32)
  (harg3 : arg3.IsWhole) (arg4 : Memref sig .tc .vmem S1x2048x1024 .bf16) (harg4 : arg4.IsWhole) (arg5 : Memref sig .tc .vmem S1024x1024 .bf16)
  (harg5 : arg5.IsWhole) (arg6 : Memref sig .tc .vmem S1024x1024 .f32) (harg6 : arg6.IsWhole) (arg7 : Memref sig .tc .vmem S1024x2048 .bf16)
  (harg7 : arg7.IsWhole) (x0 : Vec F S1024x2048 .f32) (x1 : Vec F S1x2048 .f32) (x2 : Vec F S1x2048x1024 .bf16) (xs : Vec F S1024x2048 .bf16)

omit [FloatOps F] in
/-- A load of all of a held buffer reads what it holds. -/
theorem load_all {sp : Space} {s : Shape} {e : EltTy} (a : Memref sig .tc sp s e) (ha : a.IsWhole) {off : Fin s.rank → ℕ} (inb : ∀ k, off k + s.size k ≤ s.size k)
    (x : s.Idx → Elt F e) : a.view.readAt (Elt F) (Rect.unit off s.size inb).toLoadRect (ha.unread x) = x :=
  (View.readAt_full a.view _ inb).trans (ha.read_unread x)

/-- At a row block's first point: the rows' normalisation goes to the scratch, and the first tile's product. -/
theorem run_first (h1 : first i) (h2 : k0_cond2 i = 1#1) (h3 : ¬k0_cond3 i = 1#1) (d4 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare d4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare d4
            ∗ owns (c : Thread nD τ) arg7 fullShare (k0_pay1 x0 x1)) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  obtain rfl := harg2.eq_unread hf0; obtain rfl := harg3.eq_unread hf1; obtain rfl := harg4.eq_unread hf2; obtain rfl := harg6.eq_unread hf4
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e : k0_pay1 _ _ = k0_pay1 x0 x1 := congr (congrArg k0_pay1 (load_all arg2 harg2 inb_S1024x2048_S1024x2048_0_0 x0)) (load_all arg3 harg3 inb_S1x2048_S1x2048_0_0 x1)
  isplitl [H3]
  · iexists _; isplitr; swap; · iexact H3
    ipureintro
    refine (View.read_writes_full arg5.view _ _ _ []).trans (congr (congrArg k0_pay2 ?_) (load_all arg4 harg4 _ x2))
    exact (View.readCov_full arg7.view inb_S1024x2048_S1024x2048_0_0 inb_S1024x2048_S1024x2048_0_0 _ []).trans e
  isplitl [H4]
  · iexists _; isplitr; · ipureintro; exact harg6.read_unread _
    iexact H4
  iexists _; isplitr; swap; · iexact HS
  ipureintro
  exact (View.read_writes_full arg7.view _ inb_S1024x2048_S1024x2048_0_0 _ []).trans e

/-- At a later point other than the gate's: the tile's product, in the sixteen-bit type. -/
theorem run_mid (h1 : ¬first i) (h2 : k0_cond2 i = 1#1) (h3 : ¬k0_cond3 i = 1#1) (d4 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare d4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 xs x2) ∗ owns (c : Thread nD τ) arg6 fullShare d4 ∗ owns (c : Thread nD τ) arg7 fullShare xs) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2; obtain rfl := harg7.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    exact (View.read_writes_full arg5.view _ _ _ []).trans (congr (congrArg k0_pay2 (load_all arg7 harg7 _ xs)) (load_all arg4 harg4 _ x2))
  isplitl [H4]
  · iexists _; isplitr; · ipureintro; exact hf4
    iexact H4
  iexists _; isplitr; · ipureintro; exact harg7.read_unread _
  iexact HS

/-- At the forget gate's point: the tile's product, unrounded. -/
theorem run_gate (h1 : ¬first i) (h2 : ¬k0_cond2 i = 1#1) (h3 : k0_cond3 i = 1#1) (d3 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k0_pay3 xs x2) ∗ owns (c : Thread nD τ) arg7 fullShare xs) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg7.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [H4]
  · iexists _; isplitr; swap; · iexact H4
    ipureintro
    exact (View.read_writes_full arg6.view _ _ _ []).trans (congr (congrArg k0_pay3 (load_all arg7 harg7 _ xs)) (load_all arg4 harg4 _ x2))
  iexists _; isplitr; · ipureintro; exact harg7.read_unread _
  iexact HS

end Cert.Kernel3Ideal.Proj

end
-- ==== Proof.Proj.FrameIdeal.lean ====
/- The input projection: what each window's buffer and the scratch hold after every point, and the run of the whole program. -/
module

public import proofs.«01_k».proof.Proof.Proj.BodyIdeal
public import proofs.«01_k».proof.Proof.Gen.Kernel3Ideal.Points
public import proofs.«01_k».proof.Proof.Gen.Kernel3Ideal.Launch
public import Idealize.ShloMosaic.Lib.Pipeline.TableIdle

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The schedule. Point `16 i + j` is column tile `j` of row block `i`; tile 4 is the forget gate's. -/

theorem first_iff : ∀ t : Fin cfg0.N, first (grid0.coords t) ↔ t.val % 16 = 0 :=
  (by decide +kernel : ∀ t : Fin grid0.N, first (grid0.coords t) ↔ t.val % 16 = 0)
theorem tile_iff : ∀ t : Fin cfg0.N, k0_cond2 (grid0.coords t) = 1#1 ↔ ¬t.val % 16 = 4 :=
  (by decide +kernel : ∀ t : Fin grid0.N, k0_cond2 (grid0.coords t) = 1#1 ↔ ¬t.val % 16 = 4)
theorem gate_iff : ∀ t : Fin cfg0.N, k0_cond3 (grid0.coords t) = 1#1 ↔ t.val % 16 = 4 :=
  (by decide +kernel : ∀ t : Fin grid0.N, k0_cond3 (grid0.coords t) = 1#1 ↔ t.val % 16 = 4)
theorem idle_3 : ∀ t : Fin cfg0.N, cfg0.idle 3 (grid0.coords t) = decide (t.val % 16 = 4) := by decide +kernel
theorem idle_4 : ∀ t : Fin cfg0.N, cfg0.idle 4 (grid0.coords t) = !decide (t.val % 16 = 4) := by decide +kernel
theorem flush_3 : ∀ t : Fin cfg0.N, (cfg0.win 3).flush t = !decide (t.val % 16 = 3) := by decide +kernel
theorem flush_4 : ∀ t : Fin cfg0.N, (cfg0.win 4).flush t = decide (t.val % 16 = 15) := by decide +kernel

/-- Window 3's buffer carries something over from the point before at the forget gate's points only, -/
theorem fresh_3 (t : Fin cfg0.N) : cfg0.fresh 3 t.val = !decide (t.val % 16 = 4) :=
  cfg0.fresh_tab 3 (fun n => !decide (n % 16 = 4)) rfl (fun t => by
    rw [flush_3, idle_3]
    by_cases h : t.val % 16 = 3
    · simp [h, show (t.val + 1) % 16 = 4 by omega]
    · simp [h, show ¬(t.val + 1) % 16 = 4 by omega]) t.val (Nat.le_of_lt t.isLt)

/-- and window 4's after them. -/
theorem fresh_4 (t : Fin cfg0.N) : cfg0.fresh 4 t.val = decide (t.val % 16 ≤ 4) :=
  cfg0.fresh_tab 4 (fun n => decide (n % 16 ≤ 4)) rfl (fun t => by
    rw [flush_4, idle_4]
    by_cases h : t.val % 16 = 15
    · simp [h, show (t.val + 1) % 16 ≤ 4 by omega]
    · by_cases h4 : t.val % 16 = 4
      · simp [h4, show ¬(t.val + 1) % 16 ≤ 4 by omega]
      · by_cases h5 : t.val % 16 ≤ 4
        · simp [h, h4, h5, show (t.val + 1) % 16 ≤ 4 by omega]
        · simp [h, h4, h5, show ¬(t.val + 1) % 16 ≤ 4 by omega]) t.val (Nat.le_of_lt t.isLt)

theorem lt_N (t : Fin cfg0.N) : t.val < 512 := lt_of_lt_of_eq t.isLt (show cfg0.N = 512 from N_0)

/-- Point `j` of row block `i`. -/
def pt (i j : ℕ) (h : 16 * i + j < 512) : Fin cfg0.N := ⟨16 * i + j, lt_of_lt_of_eq h (show cfg0.N = 512 from N_0).symm⟩

theorem pt_congr {i i' j j' : ℕ} (h : 16 * i + j < 512) (hi : i = i') (hj : j = j') : pt i j h = pt i' j' (by omega) := by
  subst hi; subst hj; rfl

theorem eq_pt (t : Fin cfg0.N) (j : ℕ) (hj : t.val % 16 = j) : t = pt (t.val / 16) j (by have := lt_N t; omega) :=
  Fin.ext (by show t.val = 16 * (t.val / 16) + j; omega)

/-! What the buffers hold. -/

/-- The scratch within row block `i`: the block's rows, normalised. -/
def rows (c : Dev nD) (i : ℕ) (h : i < 32) : Vec F S1024x2048 .bf16 :=
  k0_pay1 (iblk m c 0 (pt i 0 (by omega))) (iblk m c 1 (pt i 0 (by omega)))

/-- The sixteen-bit result's buffer after tile `j`, which the forget gate's point leaves as it is. -/
def tile (c : Dev nD) (i j : ℕ) (h : 16 * i + j < 512) (hi : i < 32) : Vec F S1024x1024 .bf16 :=
  k0_pay2 (rows m c i hi) (iblk m c 2 (pt i (if j = 4 then 3 else j) (by split <;> omega)))

/-- The forget gate's buffer from its point on. -/
def gate (c : Dev nD) (i : ℕ) (h : i < 32) : Vec F S1024x1024 .f32 :=
  k0_pay3 (rows m c i h) (iblk m c 2 (pt i 4 (by omega)))

theorem rows_congr (c : Dev nD) {i i' : ℕ} (h : i < 32) (e : i = i') : rows m c i h = rows m c i' (by omega) := by subst e; rfl
theorem gate_congr (c : Dev nD) {i i' : ℕ} (h : i < 32) (e : i = i') : gate m c i h = gate m c i' (by omega) := by subst e; rfl
theorem tile_congr (c : Dev nD) {i i' j j' : ℕ} (h : 16 * i + j < 512) (hi : i < 32) (e : i = i') (e' : (if j = 4 then 3 else j) = if j' = 4 then 3 else j')
    (h' : 16 * i' + j' < 512) : tile m c i j h hi = tile m c i' j' h' (by omega) := by
  subst e
  unfold tile
  rw [pt_congr _ rfl e']

theorem div_lt (t : Fin cfg0.N) : t.val / 16 < 32 := by have := lt_N t; omega
theorem split_lt (t : Fin cfg0.N) : 16 * (t.val / 16) + t.val % 16 < 512 := by have := lt_N t; omega

abbrev scr : Memref sig .tc .vmem S1024x2048 .bf16 := Memref.whole cc0_scratch0

theorem entry_inv (c : Dev nD) : (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant before point `n`: the scratch holds what the point before left. -/
def inv (c : Dev nD) : (n : ℕ) → n ≤ cfg0.N → sProp 𝕄
  | 0, _ => Pipeline.ΦA spec0 c
  | n + 1, h => iprop(iprop(owns (c : Thread nD τ) scr fullShare (rows m c (n / 16) (div_lt ⟨n, h⟩))) ∗ (∃ r, prngReg c r))

theorem inv_zero (c : Dev nD) (n : ℕ) (h : n ≤ cfg0.N) (hz : n = 0) : inv m c n h = Pipeline.ΦA spec0 c := by subst hz; rfl
theorem inv_succ (c : Dev nD) (n : ℕ) (h : n < cfg0.N) :
    inv m c (n + 1) h = iprop(iprop(owns (c : Thread nD τ) scr fullShare (rows m c (n / 16) (div_lt ⟨n, h⟩))) ∗ (∃ r, prngReg c r)) := rfl
theorem inv_pos (c : Dev nD) (n : ℕ) (h : n ≤ cfg0.N) (hz : n ≠ 0) :
    inv m c n h = iprop(iprop(owns (c : Thread nD τ) scr fullShare (rows m c ((n - 1) / 16) (div_lt ⟨n - 1, by omega⟩))) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile m c (t.val / 16) (t.val % 16) (split_lt t) (div_lt t)
    | ⟨4, _⟩ => gate m c (t.val / 16) (div_lt t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = tile m c (t.val / 16) (t.val % 16) (split_lt t) (div_lt t) := by dsimp only [dats]
theorem after_4 (c : Dev nD) (t : Fin cfg0.N) : (dats m 0 c).after 4 t = gate m c (t.val / 16) (div_lt t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-- At the forget gate's point the sixteen-bit result's buffer still holds the tile before, which that point writes back. -/
theorem before_3 (c : Dev nD) (t : Fin cfg0.N) (ht : t.val % 16 = 4) (d) : (dats m 0 c).before 3 t d = (dats m 0 c).after 3 t := by
  have carry : ∀ (t : Fin cfg0.N) (_ : t.val ≠ 0), t.val % 16 = 4 → (dats m 0 c).after 3 t = (dats m 0 c).after 3 ⟨t.val - 1, by omega⟩ := fun t h0 h => by
    rw [after_3, after_3]
    exact tile_congr m c _ _ (by show t.val / 16 = (t.val - 1) / 16; omega)
      (by show (if t.val % 16 = 4 then 3 else t.val % 16) = if (t.val - 1) % 16 = 4 then 3 else (t.val - 1) % 16
          rw [if_pos h, if_neg (by omega)]; omega) _
  rw [(dats m 0 c).before_out_traj 3 rfl (fun _ _ => rfl) (fun t h0 hi _ => carry t h0 (by rw [idle_3] at hi; simpa using hi)) t.val t rfl d, fresh_3, ht,
    carry t (by omega) ht]
  rfl

/-- After its point the forget gate's buffer keeps what that point stored, until the row block's last point writes it back. -/
theorem before_4 (c : Dev nD) (t : Fin cfg0.N) (ht : ¬t.val % 16 ≤ 4) (d) : (dats m 0 c).before 4 t d = (dats m 0 c).after 4 t := by
  have carry : ∀ (t : Fin cfg0.N) (_ : t.val ≠ 0), ¬t.val % 16 ≤ 4 → (dats m 0 c).after 4 t = (dats m 0 c).after 4 ⟨t.val - 1, by omega⟩ := fun t h0 h => by
    rw [after_4, after_4]
    exact gate_congr m c _ (by show t.val / 16 = (t.val - 1) / 16; omega)
  rw [(dats m 0 c).before_out_traj 4 rfl (fun _ _ => rfl) (fun t h0 _ hf => carry t h0 (by rw [fresh_4] at hf; simpa using hf)) t.val t rfl d, fresh_4,
    carry t (by omega) ht]
  simp [ht]

/-! The body at every point. -/

abbrev ms (w : Fin cfg0.W) (t : Fin cfg0.N) := (cfg0.win w).stage (cfg0.slots t w)

def bodyPre (c : Dev nD) (t : Fin cfg0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare ((dats m 0 c).before 3 t d))
    ∗ (∃ d, owns (c : Thread nD τ) (ms 4 t) fullShare ((dats m 0 c).before 4 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t
    ∗ (dats m 0 c).leavesExact 2 t ∗ (dats m 0 c).leavesExact 3 t ∗ (dats m 0 c).leavesExact 4 t)

theorem leaves_in (c : Dev nD) (t : Fin cfg0.N) (w : Fin cfg0.W) (h : cfg0.idle w (grid0.coords t) = false) :
    (dats m 0 c).leavesExact w t = owns (c : Thread nD τ) (ms w t) fullShare ((dats m 0 c).after w t) := by
  unfold Dat.leavesExact; rw [show cfg0.idle w (cfg0.grid.coords t) = false from h]

theorem leaves_flush (c : Dev nD) (t : Fin cfg0.N) (w : Fin cfg0.W) (h : (cfg0.win w).flush t = true) :
    (dats m 0 c).leavesExact w t = owns (c : Thread nD τ) (ms w t) fullShare ((dats m 0 c).after w t) := by
  unfold Dat.leavesExact; rw [h]; cases cfg0.idle w (cfg0.grid.coords t) <;> rfl

/-- Away from its point the forget gate's buffer is handed back as it was found. -/
theorem leaves_gate (c : Dev nD) (t : Fin cfg0.N) (h : ¬t.val % 16 = 4) (d) :
    owns (c : Thread nD τ) (ms 4 t) fullShare ((dats m 0 c).before 4 t d) ⊢ ((dats m 0 c).leavesExact 4 t : sProp 𝕄) := by
  by_cases hl : t.val % 16 = 15
  · rw [leaves_flush m c t 4 (by rw [flush_4]; simp [hl]), before_4 m c t (by omega)]
  · rw [Dat.leavesExact_idle (dats m 0 c) 4 t (by rw [idle_4]; simp [h]) (by rw [flush_4]; simp [hl])]
    iintro H
    iexists _; iexact H

/-- Before any point the scratch holds something; before a point that is not its row block's first, the block's rows. -/
theorem inv_any (c : Dev nD) (t : Fin cfg0.N) :
    inv m c t.val (Nat.le_of_lt t.isLt) ⊢ iprop(iprop((∃ d, owns (c : Thread nD τ) scr fullShare d)) ∗ (∃ r, prngReg c r)) := by
  by_cases hz : t.val = 0
  · rw [inv_zero m c _ _ hz, entry_inv]
  · rw [inv_pos m c _ _ hz]
    iintro ⟨H, Hg⟩
    isplitl [H]
    · iexists _; iexact H
    iexact Hg

theorem inv_rows (c : Dev nD) (t : Fin cfg0.N) (h : ¬t.val % 16 = 0) :
    inv m c t.val (Nat.le_of_lt t.isLt) = iprop(iprop(owns (c : Thread nD τ) scr fullShare (rows m c (t.val / 16) (div_lt t))) ∗ (∃ r, prngReg c r)) := by
  rw [inv_pos m c _ _ (by omega), rows_congr m c _ (show (t.val - 1) / 16 = t.val / 16 by omega)]

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = inv m c (t.val + 1) t.isLt from rfl, inv_succ, inv_castSucc,
    leaves_in m c t 0 rfl, leaves_in m c t 1 rfl, leaves_in m c t 2 rfl, after_0, after_1, after_2]
  by_cases h0 : t.val % 16 = 0
  · have ep : pt (t.val / 16) 0 (by have := lt_N t; omega) = t := (eq_pt t 0 h0).symm
    have er : k0_pay1 (iblk m c 0 t) (iblk m c 1 t) = rows m c (t.val / 16) (div_lt t) := by unfold rows; rw [ep]
    have et : (dats m 0 c).after 3 t = k0_pay2 (k0_pay1 (iblk m c 0 t) (iblk m c 1 t)) (iblk m c 2 t) := by
      rw [after_3, er]; unfold tile
      rw [pt_congr _ rfl (show (if t.val % 16 = 4 then 3 else t.val % 16) = 0 by rw [if_neg (by omega)]; exact h0), ep]
    rw [leaves_in m c t 3 (by rw [idle_3]; simp [h0]), et, ← er]
    refine BIBase.Entails.trans (sep_mono (inv_any m c t) .rfl) ?_
    iintro ⟨⟨HS, Hg⟩, Ho, ⟨%d0, H0⟩, ⟨%d1, H1⟩, ⟨%d2, H2⟩, ⟨%d3, H3⟩, ⟨%d4, H4⟩⟩
    iapply (run_first c (grid0.coords t) _ _ _ _ _ _ _ _ _ _ scr (Memref.isWhole_whole _) (iblk m c 0 t) (iblk m c 1 t) (iblk m c 2 t)
      ((first_iff t).mpr h0) ((tile_iff t).mpr (by omega)) (fun h => absurd ((gate_iff t).mp h) (by omega)) _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iapply (leaves_gate m c t (by omega) d4)
    iexact H4
  · rw [inv_rows m c t h0]
    by_cases h4 : t.val % 16 = 4
    · have et : (dats m 0 c).after 4 t = k0_pay3 (rows m c (t.val / 16) (div_lt t)) (iblk m c 2 t) := by
        rw [after_4]; unfold gate; rw [← eq_pt t 4 h4]
      rw [leaves_in m c t 4 (by rw [idle_4]; simp [h4]), et, leaves_flush m c t 3 (by rw [flush_3]; simp [h4])]
      simp only [before_3 m c t h4]
      iintro ⟨⟨HS, Hg⟩, Ho, ⟨%d0, H0⟩, ⟨%d1, H1⟩, ⟨%d2, H2⟩, ⟨%d3, H3⟩, ⟨%d4, H4⟩⟩
      iapply (run_gate c (grid0.coords t) _ _ _ _ _ _ _ _ _ _ scr (Memref.isWhole_whole _) (iblk m c 0 t) (iblk m c 1 t) (iblk m c 2 t) _
        (fun h => h0 ((first_iff t).mp h)) (fun h => (tile_iff t).mp h h4) ((gate_iff t).mpr h4) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      iexact H4
    · have et : (dats m 0 c).after 3 t = k0_pay2 (rows m c (t.val / 16) (div_lt t)) (iblk m c 2 t) := by
        rw [after_3]; unfold tile
        rw [pt_congr _ rfl (show (if t.val % 16 = 4 then 3 else t.val % 16) = t.val % 16 from if_neg h4), ← eq_pt t _ rfl]
      rw [leaves_in m c t 3 (by rw [idle_3]; simp [h4]), et]
      iintro ⟨⟨HS, Hg⟩, Ho, ⟨%d0, H0⟩, ⟨%d1, H1⟩, ⟨%d2, H2⟩, ⟨%d3, H3⟩, ⟨%d4, H4⟩⟩
      iapply (run_mid c (grid0.coords t) _ _ _ _ _ _ _ _ _ _ scr (Memref.isWhole_whole _) (iblk m c 0 t) (iblk m c 1 t) (iblk m c 2 t) _
        (fun h => h0 ((first_iff t).mp h)) ((tile_iff t).mpr h4) (fun h => h4 ((gate_iff t).mp h)) _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      iapply (leaves_gate m c t h4 d4)
      iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 512 := N_0; omega), entry_inv]
  iintro ⟨HS, Hg⟩
  isplitl [HS]
  · iexists _; iexact HS
  iexact Hg

/-! The run of the program. -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The program terminates, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel3Ideal.Proj

end
-- ==== Proof.Att.Row.lean ====
/- One row of an attention over extended reals: the softmax-weighted mean of the values, in the form with one division at
   the end and exponentials to base two (`rowQuot`), and in the form with normalised probabilities and natural
   exponentials (`rowSoft`). -/
module

public import Idealize.ShloMosaic.PureOps.Ideal.Laws

@[expose] public section

noncomputable section

namespace Cert.Att

open Idealize.ShloMosaic

/-- The greatest score of a row (`⊥` for a row without entries). -/
def rowMax {ι : Type} [Fintype ι] (s : ι → EReal) : EReal := Finset.univ.fold max ⊥ s

/-- Attention of a row with scores `s` (base two) and values `v`: the weighted sum over the sum of the weights. -/
def rowQuot {ι : Type} [Fintype ι] (s v : ι → EReal) : EReal :=
  Ideal.div (∑ x, Ideal.exp2 (s x - rowMax s) * v x) (∑ x, Ideal.exp2 (s x - rowMax s))

/-- Attention of a row with scores `s` and values `v`: the sum of the values times their softmax probabilities. -/
def rowSoft {ι : Type} [Fintype ι] (s v : ι → EReal) : EReal :=
  ∑ x, v x * Ideal.div (Ideal.exp (s x - rowMax s)) (∑ y, Ideal.exp (s y - rowMax s))

theorem rowMax_eq_sup {ι : Type} [Fintype ι] (s : ι → EReal) : rowMax s = Finset.univ.sup s := rfl

theorem le_rowMax {ι : Type} [Fintype ι] (s : ι → EReal) (i : ι) : s i ≤ rowMax s := by
  rw [rowMax_eq_sup]; exact Finset.le_sup (Finset.mem_univ i)

theorem rowMax_le {ι : Type} [Fintype ι] (s : ι → EReal) (b : EReal) (h : ∀ i, s i ≤ b) : rowMax s ≤ b := by
  rw [rowMax_eq_sup]; exact Finset.sup_le fun i _ => h i

/-- Entries masked with `⊥` do not change the greatest score. -/
theorem rowMax_reindex {ι κ : Type} [Fintype ι] [Fintype κ] (e : ι → κ) (s : ι → EReal) (S : κ → EReal)
    (hs : ∀ i, s i = S (e i)) (hoff : ∀ k, k ∉ Set.range e → S k = ⊥) : rowMax s = rowMax S := by
  refine le_antisymm (rowMax_le _ _ fun i => (hs i).le.trans (le_rowMax S _)) (rowMax_le _ _ fun k => ?_)
  by_cases hk : k ∈ Set.range e
  · obtain ⟨i, rfl⟩ := hk
    rw [← hs]; exact le_rowMax s i
  · rw [hoff k hk]; exact bot_le

theorem exp2_bot_sub (x : EReal) : Ideal.exp2 (⊥ - x) = 0 := by
  rw [sub_eq_add_neg, EReal.bot_add]; rfl

/-- Masked entries do not change a row's attention: a row over `ι` equals the row over `κ` it is part of. -/
theorem rowQuot_reindex {ι κ : Type} [Fintype ι] [Fintype κ] (e : ι → κ) (he : Function.Injective e)
    (s v : ι → EReal) (S V : κ → EReal) (hs : ∀ i, s i = S (e i)) (hv : ∀ i, S (e i) ≠ ⊥ → v i = V (e i))
    (hoff : ∀ k, k ∉ Set.range e → S k = ⊥) : rowQuot s v = rowQuot S V := by
  unfold rowQuot
  rw [rowMax_reindex e s S hs hoff]
  congr 1
  · refine Fintype.sum_of_injective e he _ _ (fun k hk => ?_) fun i => ?_
    · rw [hoff k hk, exp2_bot_sub, zero_mul]
    · rw [hs i]
      by_cases h : S (e i) = ⊥
      · rw [h, exp2_bot_sub, zero_mul, zero_mul]
      · rw [hv i h]
  · refine Fintype.sum_of_injective e he _ _ (fun k hk => ?_) fun i => ?_
    · rw [hoff k hk, exp2_bot_sub]
    · rw [hs i]

/-- A nonnegative real times a finite sum of extended reals. -/
theorem coe_mul_sum {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih,
      EReal.left_distrib_of_nonneg_of_ne_top (EReal.coe_nonneg.mpr hc) (EReal.coe_ne_top c)]

theorem sum_mul_coe {ι : Type} (t : Finset ι) (c : ℝ) (hc : 0 ≤ c) (f : ι → EReal) :
    (∑ i ∈ t, f i) * (c : EReal) = ∑ i ∈ t, f i * (c : EReal) := by
  rw [mul_comm, coe_mul_sum t c hc]
  exact Finset.sum_congr rfl fun i _ => mul_comm _ _

/-- The scale between exponentials to base `e` and to base two. -/
def log2e : ℝ := (Real.log 2)⁻¹

theorem log2e_pos : 0 < log2e := inv_pos.mpr (Real.log_pos (by norm_num))

/-- Scores in base two, less their maximum, have the exponentials of the plain scores. -/
theorem exp2_log2e_sub (a : EReal) (ha : a ≠ ⊤) (b : ℝ) :
    Ideal.exp2 ((log2e : EReal) * a - (log2e : EReal) * (b : EReal)) = Ideal.exp (a - b) := by
  induction a using EReal.rec with
  | bot =>
    rw [EReal.coe_mul_bot_of_pos log2e_pos, exp2_bot_sub, sub_eq_add_neg, EReal.bot_add]; rfl
  | top => exact absurd rfl ha
  | coe r =>
    rw [← EReal.coe_mul, ← EReal.coe_mul, ← EReal.coe_sub, ← EReal.coe_sub]
    show ((Real.rpow 2 (log2e * r - log2e * b) : ℝ) : EReal) = ((Real.exp (r - b) : ℝ) : EReal)
    congr 1
    show (2 : ℝ) ^ (log2e * r - log2e * b) = _
    rw [Real.rpow_def_of_pos (by norm_num : (0 : ℝ) < 2), ← mul_sub, ← mul_assoc, log2e,
      mul_inv_cancel₀ (Real.log_pos (by norm_num : (1 : ℝ) < 2)).ne', one_mul]

theorem rowMax_log2e {ι : Type} [Fintype ι] (s : ι → EReal) (hvis : ∃ i, s i ≠ ⊥) :
    rowMax (fun i => (log2e : EReal) * s i) = (log2e : EReal) * rowMax s := by
  have h0 : (0 : EReal) ≤ (log2e : EReal) := EReal.coe_nonneg.mpr log2e_pos.le
  obtain ⟨i, hi⟩ := hvis
  refine le_antisymm (rowMax_le _ _ fun j => mul_le_mul_of_nonneg_left (le_rowMax s j) h0) ?_
  obtain ⟨j, -, hj⟩ := Finset.exists_mem_eq_sup Finset.univ ⟨i, Finset.mem_univ i⟩ s
  rw [rowMax_eq_sup s, hj]
  exact le_rowMax (fun i => (log2e : EReal) * s i) j

theorem exp_nonneg (a : EReal) : 0 ≤ Ideal.exp a := by
  induction a using EReal.rec with
  | bot => exact le_rfl
  | top => exact le_top
  | coe r => exact EReal.coe_nonneg.mpr (Real.exp_pos r).le

/-- The two forms of a row's attention agree when no score is `⊤` and some score is not masked. -/
theorem rowQuot_log2e {ι : Type} [Fintype ι] (s v : ι → EReal) (hfin : ∀ i, s i ≠ ⊤) (hvis : ∃ i, s i ≠ ⊥) :
    rowQuot (fun i => (log2e : EReal) * s i) v = rowSoft s v := by
  obtain ⟨i, hi⟩ := hvis
  obtain ⟨j, -, hj⟩ := Finset.exists_mem_eq_sup Finset.univ ⟨i, Finset.mem_univ i⟩ s
  have hMtop : rowMax s ≠ ⊤ := by rw [rowMax_eq_sup, hj]; exact hfin j
  have hMbot : rowMax s ≠ ⊥ := fun h => hi (le_bot_iff.mp (h ▸ le_rowMax s i))
  lift rowMax s to ℝ using ⟨hMtop, hMbot⟩ with M hM
  have hw : ∀ x, Ideal.exp2 ((log2e : EReal) * s x - rowMax fun i => (log2e : EReal) * s i) = Ideal.exp (s x - rowMax s) := by
    intro x
    rw [rowMax_log2e s ⟨i, hi⟩, ← hM]
    exact exp2_log2e_sub _ (hfin x) M
  unfold rowQuot rowSoft
  simp only [hw]
  have hreal : ∀ x, ∃ r : ℝ, 0 ≤ r ∧ Ideal.exp (s x - rowMax s) = (r : EReal) := by
    intro x
    rw [← hM]
    have hx := hfin x
    generalize s x = a at hx ⊢
    induction a using EReal.rec with
    | bot => exact ⟨0, le_rfl, by rw [sub_eq_add_neg, EReal.bot_add]; rfl⟩
    | top => exact absurd rfl hx
    | coe r => exact ⟨Real.exp (r - M), (Real.exp_pos _).le, by rw [← EReal.coe_sub]; rfl⟩
  choose w hw0 hwe using hreal
  have hS : (∑ y, Ideal.exp (s y - rowMax s)) = ((∑ y, w y : ℝ) : EReal) := by
    simp only [hwe]; exact (map_sum (⟨⟨Real.toEReal, EReal.coe_zero⟩, EReal.coe_add⟩ : ℝ →+ EReal) w Finset.univ).symm
  have hj1 : w j = 1 := by
    have : Ideal.exp (s j - rowMax s) = ((1 : ℝ) : EReal) := by
      have : s j = (M : EReal) := by rw [hM, rowMax_eq_sup, hj]
      rw [this, ← hM, ← EReal.coe_sub, sub_self]
      show ((Real.exp 0 : ℝ) : EReal) = _
      rw [Real.exp_zero]
    rw [hwe] at this
    exact_mod_cast this
  have hpos : 0 < ∑ y, w y :=
    Finset.sum_pos' (fun y _ => hw0 y) ⟨j, Finset.mem_univ j, by rw [hj1]; exact one_pos⟩
  have hne : ((∑ y, w y : ℝ) : EReal) ≠ 0 := by exact_mod_cast hpos.ne'
  have hdiv : ∀ z : EReal, Ideal.div z ((∑ y, w y : ℝ) : EReal) = z * (((∑ y, w y)⁻¹ : ℝ) : EReal) := by
    intro z
    rw [Ideal.div, if_neg hne, EReal.coe_inv]
  rw [hS, hdiv, sum_mul_coe _ _ (inv_nonneg.mpr hpos.le)]
  refine Finset.sum_congr rfl fun x _ => ?_
  rw [hdiv, mul_comm (v x), mul_right_comm]

end Cert.Att

end
-- ==== Proof.Att.Block.lean ====
/- What one grid point of the attention kernel computes, as a function of its blocks: each row of the output block is the
   attention of its query over the keys of its group's window. -/
module

public import proofs.«01_k».proof.Proof.Gen.KernelIdeal.Value
public import proofs.«01_k».proof.Proof.Att.Row
public import Idealize.ShloMosaic.Lib.Claim
public import Idealize.ShloMosaic.Lib.Pointwise
public import Idealize.ShloMosaic.Lib.Pipeline.ValueKit

@[expose] public section

set_option maxRecDepth 16384

noncomputable section

namespace Cert.Att

open Idealize.ShloMosaic Idealize.ShloMosaic.TcCoe Idealize.SL.Sem
open Cert.KernelIdeal Cert.KernelIdeal.Gen

/-- The bit pattern that a maximum starts from denotes `⊥`. -/
theorem negInf_bits : Ideal.ofBits FTy.f32 4286578688#32 = ⊥ := by
  simp [Ideal.ofBits, Ideal.ieee]

/-- A unit over 256 keys, row `r`, column `d`. -/
theorem unit256 (q k v : Vec Ideal S1x256x128 .bf16) (b : Vec Ideal S1x256x256 .f32) (x : S1x256x128.Idx) :
    k0_pay7 (k0_pay4 q k b) v x
      = rowQuot (fun j : Fin 256 => ∑ d : Fin 128, q (ix3 0 (x 1) d) * k (ix3 0 j d) + b (ix3 0 (x 1) j))
          (fun j => v (ix3 0 j (x 2))) := by
  pointwise [k0_pay7, k0_pay4]
  rw [negInf_bits]
  rfl

/-- A unit over 512 keys, row `r`, column `d`. -/
theorem unit512 (q : Vec Ideal S1x256x128 .bf16) (k v : Vec Ideal S1x512x128 .bf16) (b : Vec Ideal S1x256x512 .f32)
    (x : S1x256x128.Idx) :
    k0_pay10 (k0_pay6 (k0_pay3 q k b)) v x
      = rowQuot (fun j : Fin 512 => ∑ d : Fin 128, q (ix3 0 (x 1) d) * k (ix3 0 j d) + b (ix3 0 (x 1) j))
          (fun j => v (ix3 0 j (x 2))) := by
  pointwise [k0_pay10, k0_pay6, k0_pay3]
  rw [negInf_bits]
  rfl

/-- A unit over 768 keys, row `r`, column `d`. -/
theorem unit768 (q : Vec Ideal S1x256x128 .bf16) (k v : Vec Ideal S1x768x128 .bf16) (b : Vec Ideal S1x256x768 .f32)
    (x : S1x256x128.Idx) :
    k0_pay17 (k0_pay12 (k0_pay8 q k b)) v x
      = rowQuot (fun j : Fin 768 => ∑ d : Fin 128, q (ix3 0 (x 1) d) * k (ix3 0 j d) + b (ix3 0 (x 1) j))
          (fun j => v (ix3 0 j (x 2))) := by
  pointwise [k0_pay17, k0_pay12, k0_pay8]
  rw [negInf_bits]
  rfl

/-- The window of keys of query `t`'s group, keys counted from 512 before the first one. -/
def inWindow (t p : ℕ) : Prop := 512 ≤ p ∧ 256 * (t / 256) ≤ p ∧ p < 256 * (t / 256) + 768

instance (t p : ℕ) : Decidable (inWindow t p) := by unfold inWindow; infer_instance

/-- The score that a grid point's blocks give query `t` and key `p` of the head that holds column `c`. -/
def blkScore (x0 x1 : Vec Ideal S1x2048x512 .bf16) (x3 : Vec Ideal S4x256x768 .f32) (t : Fin 2048) (c : Fin 512)
    (p : Fin 2560) : EReal :=
  if h : inWindow t p then
    ∑ d : Fin 128, x0 (ix3 0 t ⟨128 * (c.val / 128) + d.val, by omega⟩)
        * x1 (ix3 0 ⟨p.val - 512, by omega⟩ ⟨128 * (c.val / 128) + d.val, by omega⟩)
      + x3 (ix3 ⟨c.val / 128, by omega⟩ ⟨t.val % 256, by omega⟩
          ⟨p.val - 256 * (t.val / 256), by obtain ⟨_, _, _⟩ := h; omega⟩)
  else ⊥

/-- Row `t`, column `c` of the output block as a function of the input blocks. -/
def blkRow (x0 x1 x2 : Vec Ideal S1x2048x512 .bf16) (x3 : Vec Ideal S4x256x768 .f32) (t : Fin 2048) (c : Fin 512) : EReal :=
  rowQuot (blkScore x0 x1 x3 t c) (fun p => x2 (ix3 0 ⟨p.val - 512, by omega⟩ c))

/-- A unit over the last `nk` keys of its window, its operands the parts of the blocks that its group and head name, is
    the output block at the unit's place. -/
theorem unit_eq {nk : ℕ} (x0 x1 x2 : Vec Ideal S1x2048x512 .bf16) (x3 : Vec Ideal S4x256x768 .f32) (t : Fin 2048) (c : Fin 512)
    (g hh : ℕ) (hnk : nk ≤ 768) (hw : 768 - nk + 256 * g ≥ 512) (hs : nk = 768 ∨ 768 - nk + 256 * g = 512)
    (r : Fin 256) (e : Fin 128) (hr : t.val = 256 * g + r.val) (he : c.val = 128 * hh + e.val)
    (q : Fin 128 → EReal) (k v : Fin nk → Fin 128 → EReal) (b : Fin nk → EReal)
    (hq : ∀ d (c : Fin 512), c.val = 128 * hh + d.val → q d = x0 (ix3 0 t c))
    (hk : ∀ j d (s : Fin 2048) (c : Fin 512), s.val + 512 = 256 * g + (768 - nk) + j.val → c.val = 128 * hh + d.val →
      k j d = x1 (ix3 0 s c))
    (hv : ∀ j d (s : Fin 2048) (c : Fin 512), s.val + 512 = 256 * g + (768 - nk) + j.val → c.val = 128 * hh + d.val →
      v j d = x2 (ix3 0 s c))
    (hb : ∀ j (a : Fin 4) (c : Fin 768), a.val = hh → c.val = (768 - nk) + j.val → b j = x3 (ix3 a r c)) :
    rowQuot (fun j => ∑ d, q d * k j d + b j) (fun j => v j e) = blkRow x0 x1 x2 x3 t c := by
  have hg : g = t.val / 256 := by omega
  have hr' : r = (⟨t.val % 256, by omega⟩ : Fin 256) := Fin.ext (show r.val = t.val % 256 by omega)
  have hhh : hh = c.val / 128 := by omega
  have hlt : ∀ j : Fin nk, 256 * g + (768 - nk) + j.val < 2560 := fun j => by omega
  refine rowQuot_reindex (fun j : Fin nk => (⟨256 * g + (768 - nk) + j.val, hlt j⟩ : Fin 2560))
    (fun a b h => Fin.ext ?_) _ _ _ _ (fun j => ?_) (fun j _ => ?_) (fun p hp => ?_)
  · have h' : 256 * g + (768 - nk) + a.val = 256 * g + (768 - nk) + b.val := congrArg Fin.val h
    omega
  · have hin : inWindow t.val (256 * g + (768 - nk) + j.val) := ⟨by omega, by omega, by omega⟩
    unfold blkScore
    rw [dif_pos hin]
    refine congrArg₂ (· + ·) (Finset.sum_congr rfl fun d _ => congrArg₂ (· * ·) ?_ ?_) ?_
    · exact hq d _ (by show 128 * (c.val / 128) + d.val = _; omega)
    · exact hk j d _ _ (by show 256 * g + (768 - nk) + j.val - 512 + 512 = _; omega)
        (by show 128 * (c.val / 128) + d.val = _; omega)
    · rw [← hr']
      exact hb j _ _ (by show c.val / 128 = _; omega)
        (by show 256 * g + (768 - nk) + j.val - 256 * (t.val / 256) = _; omega)
  · exact hv j e _ c (by show 256 * g + (768 - nk) + j.val - 512 + 512 = _; omega) he
  · unfold blkScore
    refine dif_neg fun hin => hp ?_
    obtain ⟨ha, hb', hc⟩ := hin
    exact ⟨⟨p.val - (256 * g + (768 - nk)), by omega⟩,
      Fin.ext (by show 256 * g + (768 - nk) + (p.val - (256 * g + (768 - nk))) = p.val; omega)⟩

end Cert.Att

end
-- ==== Proof.Att.Tiles.lean ====
/- The 32 stores of one grid point of the attention kernel, read back at an index: the closed form of Block.lean. -/
module

public import proofs.«01_k».proof.Proof.Att.Block

@[expose] public section

set_option maxRecDepth 16384

noncomputable section

namespace Cert.Att

open Idealize.ShloMosaic Idealize.ShloMosaic.TcCoe Idealize.SL.Sem
open Cert.KernelIdeal Cert.KernelIdeal.Gen

/-- A load through a unit-stride rectangle of a rank-3 block, at the index with the coordinates it places. -/
theorem ld3 {n0 n1 n2 o0 o1 o2 : ℕ} {z : Fin 3 → ℕ} {e : EltTy} (X : (⟨3, ![n0, n1, n2]⟩ : Shape).Idx → Elt Ideal e)
    (inb) (x : (Rect.unit (s := ⟨3, ![n0, n1, n2]⟩) ![o0, o1, o2] z inb).shape.Idx) (i : (⟨3, ![n0, n1, n2]⟩ : Shape).Idx)
    (h0 : (i 0).val = o0 + (x 0).val) (h1 : (i 1).val = o1 + (x 1).val) (h2 : (i 2).val = o2 + (x 2).val) :
    View.ld X (Rect.unit (s := ⟨3, ![n0, n1, n2]⟩) ![o0, o1, o2] z inb) x = X i :=
  View.ld_unit_apply_of X _ _ inb x i fun a => match a with
    | ⟨0, _⟩ => h0
    | ⟨1, _⟩ => h1
    | ⟨2, _⟩ => h2

/-- The unit over 256 keys of the head `hh` and of the rows from `q0`. -/
theorem tile256 (x0 x1 x2 : Vec Ideal S1x2048x512 .bf16) (x3 : Vec Ideal S4x256x768 .f32) (t : Fin 2048) (c : Fin 512)
    {q0 c0 : ℕ} {iq ik ib} (x : S1x256x128.Idx) (ht : t.val = q0 + (x 1).val) (hc : c.val = c0 + (x 2).val)
    (hq0 : q0 % 256 = 0) (hk0 : 256 ≤ q0 + 256) (hg : q0 = 0) (hc0 : c0 % 128 = 0) :
    k0_pay7 (k0_pay4 (View.ld x0 (Rect.unit ![0, q0, c0] S1x256x128.size iq))
        (View.ld x1 (Rect.unit ![0, q0 + 256 - 256, c0] S1x256x128.size ik)) (View.ld x3 (Rect.unit ![c0 / 128, 0, 512] S1x256x256.size ib)))
        (View.ld x2 (Rect.unit ![0, q0 + 256 - 256, c0] S1x256x128.size ik)) x
      = blkRow x0 x1 x2 x3 t c := by
  rw [unit256]
  have h1 : (x 1).val < 256 := (x 1).isLt
  refine unit_eq (nk := 256) x0 x1 x2 x3 t c (q0 / 256) (c0 / 128) (by omega) (by omega) (by omega) (x 1) (x 2) (by omega)
    (by omega) (fun d => View.ld x0 (Rect.unit ![0, q0, c0] S1x256x128.size iq) (ix3 0 (x 1) d))
    (fun j d => View.ld x1 (Rect.unit ![0, q0 + 256 - 256, c0] S1x256x128.size ik) (ix3 0 j d))
    (fun j d => View.ld x2 (Rect.unit ![0, q0 + 256 - 256, c0] S1x256x128.size ik) (ix3 0 j d))
    (fun j => View.ld x3 (Rect.unit ![c0 / 128, 0, 512] S1x256x256.size ib) (ix3 0 (x 1) j))
    (fun d c' h => ?_) (fun j d s c' hs h => ?_) (fun j d s c' hs h => ?_) (fun j a c' ha h => ?_)
  · exact ld3 x0 iq _ _ rfl (show t.val = q0 + (x 1).val from ht) (show c'.val = c0 + d.val by omega)
  · exact ld3 x1 ik _ _ rfl (show s.val = q0 + 256 - 256 + j.val by omega) (show c'.val = c0 + d.val by omega)
  · exact ld3 x2 ik _ _ rfl (show s.val = q0 + 256 - 256 + j.val by omega) (show c'.val = c0 + d.val by omega)
  · exact ld3 x3 ib _ _ (show a.val = c0 / 128 + 0 by omega) (show (x 1).val = 0 + (x 1).val by omega)
      (show c'.val = 512 + j.val by omega)

/-- The unit over 512 keys of the head `hh` and of the rows from `q0`. -/
theorem tile512 (x0 x1 x2 : Vec Ideal S1x2048x512 .bf16) (x3 : Vec Ideal S4x256x768 .f32) (t : Fin 2048) (c : Fin 512)
    {q0 c0 : ℕ} {iq ik ib} (x : S1x256x128.Idx) (ht : t.val = q0 + (x 1).val) (hc : c.val = c0 + (x 2).val)
    (hq0 : q0 % 256 = 0) (hk0 : 512 ≤ q0 + 256) (hg : q0 = 256) (hc0 : c0 % 128 = 0) :
    k0_pay10 (k0_pay6 (k0_pay3 (View.ld x0 (Rect.unit ![0, q0, c0] S1x256x128.size iq))
        (View.ld x1 (Rect.unit ![0, q0 + 256 - 512, c0] S1x512x128.size ik)) (View.ld x3 (Rect.unit ![c0 / 128, 0, 256] S1x256x512.size ib))))
        (View.ld x2 (Rect.unit ![0, q0 + 256 - 512, c0] S1x512x128.size ik)) x
      = blkRow x0 x1 x2 x3 t c := by
  rw [unit512]
  have h1 : (x 1).val < 256 := (x 1).isLt
  refine unit_eq (nk := 512) x0 x1 x2 x3 t c (q0 / 256) (c0 / 128) (by omega) (by omega) (by omega) (x 1) (x 2) (by omega)
    (by omega) (fun d => View.ld x0 (Rect.unit ![0, q0, c0] S1x256x128.size iq) (ix3 0 (x 1) d))
    (fun j d => View.ld x1 (Rect.unit ![0, q0 + 256 - 512, c0] S1x512x128.size ik) (ix3 0 j d))
    (fun j d => View.ld x2 (Rect.unit ![0, q0 + 256 - 512, c0] S1x512x128.size ik) (ix3 0 j d))
    (fun j => View.ld x3 (Rect.unit ![c0 / 128, 0, 256] S1x256x512.size ib) (ix3 0 (x 1) j))
    (fun d c' h => ?_) (fun j d s c' hs h => ?_) (fun j d s c' hs h => ?_) (fun j a c' ha h => ?_)
  · exact ld3 x0 iq _ _ rfl (show t.val = q0 + (x 1).val from ht) (show c'.val = c0 + d.val by omega)
  · exact ld3 x1 ik _ _ rfl (show s.val = q0 + 256 - 512 + j.val by omega) (show c'.val = c0 + d.val by omega)
  · exact ld3 x2 ik _ _ rfl (show s.val = q0 + 256 - 512 + j.val by omega) (show c'.val = c0 + d.val by omega)
  · exact ld3 x3 ib _ _ (show a.val = c0 / 128 + 0 by omega) (show (x 1).val = 0 + (x 1).val by omega)
      (show c'.val = 256 + j.val by omega)

/-- The unit over 768 keys of the head `hh` and of the rows from `q0`. -/
theorem tile768 (x0 x1 x2 : Vec Ideal S1x2048x512 .bf16) (x3 : Vec Ideal S4x256x768 .f32) (t : Fin 2048) (c : Fin 512)
    {q0 c0 : ℕ} {iq ik ib} (x : S1x256x128.Idx) (ht : t.val = q0 + (x 1).val) (hc : c.val = c0 + (x 2).val)
    (hq0 : q0 % 256 = 0) (hk0 : 768 ≤ q0 + 256) (hc0 : c0 % 128 = 0) :
    k0_pay17 (k0_pay12 (k0_pay8 (View.ld x0 (Rect.unit ![0, q0, c0] S1x256x128.size iq))
        (View.ld x1 (Rect.unit ![0, q0 + 256 - 768, c0] S1x768x128.size ik)) (View.ld x3 (Rect.unit ![c0 / 128, 0, 0] S1x256x768.size ib))))
        (View.ld x2 (Rect.unit ![0, q0 + 256 - 768, c0] S1x768x128.size ik)) x
      = blkRow x0 x1 x2 x3 t c := by
  rw [unit768]
  have h1 : (x 1).val < 256 := (x 1).isLt
  refine unit_eq (nk := 768) x0 x1 x2 x3 t c (q0 / 256) (c0 / 128) (by omega) (by omega) (by omega) (x 1) (x 2) (by omega)
    (by omega) (fun d => View.ld x0 (Rect.unit ![0, q0, c0] S1x256x128.size iq) (ix3 0 (x 1) d))
    (fun j d => View.ld x1 (Rect.unit ![0, q0 + 256 - 768, c0] S1x768x128.size ik) (ix3 0 j d))
    (fun j d => View.ld x2 (Rect.unit ![0, q0 + 256 - 768, c0] S1x768x128.size ik) (ix3 0 j d))
    (fun j => View.ld x3 (Rect.unit ![c0 / 128, 0, 0] S1x256x768.size ib) (ix3 0 (x 1) j))
    (fun d c' h => ?_) (fun j d s c' hs h => ?_) (fun j d s c' hs h => ?_) (fun j a c' ha h => ?_)
  · exact ld3 x0 iq _ _ rfl (show t.val = q0 + (x 1).val from ht) (show c'.val = c0 + d.val by omega)
  · exact ld3 x1 ik _ _ rfl (show s.val = q0 + 256 - 768 + j.val by omega) (show c'.val = c0 + d.val by omega)
  · exact ld3 x2 ik _ _ rfl (show s.val = q0 + 256 - 768 + j.val by omega) (show c'.val = c0 + d.val by omega)
  · exact ld3 x3 ib _ _ (show a.val = c0 / 128 + 0 by omega) (show (x 1).val = 0 + (x 1).val by omega)
      (show c'.val = 0 + j.val by omega)

/-- What the stores of a grid point leave in the output block. -/
theorem out_eq (x0 x1 x2 : Vec Ideal S1x2048x512 .bf16) (x3 : Vec Ideal S4x256x768 .f32) (y : S1x2048x512.Idx) :
    out0_4 x0 x1 x2 x3 y = blkRow x0 x1 x2 x3 (y 1) (y 2) := by
  unfold out0_4
  have z : ∀ {a b : ℕ}, a = b → a = 0 + b := fun h => h.trans (Nat.zero_add _).symm
  canon_tiles x h
  case piece31 => exact (have e := tile256 x0 x1 x2 x3 (y 1) (y 2) x (z h1) (z h2) rfl (by decide) rfl rfl; e)
  case piece7 | piece15 | piece23 =>
    exact (have e := tile256 x0 x1 x2 x3 (y 1) (y 2) x (z h1) h2 rfl (by decide) rfl rfl; e)
  case piece30 => exact (have e := tile512 x0 x1 x2 x3 (y 1) (y 2) x h1 (z h2) rfl (by decide) rfl rfl; e)
  case piece6 | piece14 | piece22 =>
    exact (have e := tile512 x0 x1 x2 x3 (y 1) (y 2) x h1 h2 rfl (by decide) rfl rfl; e)
  case piece24 | piece25 | piece26 | piece27 | piece28 | piece29 =>
    exact (have e := tile768 x0 x1 x2 x3 (y 1) (y 2) x h1 (z h2) rfl (by decide) rfl; e)
  all_goals exact (have e := tile768 x0 x1 x2 x3 (y 1) (y 2) x h1 h2 rfl (by decide) rfl; e)

end Cert.Att

end
-- ==== Proof.Att.HostOps.lean ====
/- What each group of host operations before the attention kernel leaves, over any contents before it. -/
module

public import proofs.«01_k».proof.Proof.Att.Block
public import Idealize.ShloMosaic.Lib.Claim

@[expose] public section

set_option maxRecDepth 16384

noncomputable section

namespace Cert.Att

open Idealize.ShloMosaic Idealize.ShloMosaic.TcCoe Idealize.SL.Sem
open Cert.KernelIdeal Cert.KernelIdeal.Gen
open Idealize.ShloMosaic.Pipeline (Dat)

/-- The buffers after two lines of host operations are those after the second, from those after the first. -/
theorem after_append {τ' : Topo} {sig' : RefSig} {Val : EltTy → Type} (l₁ l₂ : List (HloOp τ' sig' Val))
    (V : Idealize.ShloMosaic.Valuation τ' sig' Val) :
    StableHlo.after (l₁ ++ l₂) V = StableHlo.after l₂ (StableHlo.after l₁ V) := by
  induction l₁ generalizing V with
  | nil => rfl
  | cons op l ih => rw [List.cons_append, StableHlo.after_cons, StableHlo.after_cons, ih]

/-- A rank-0 shape has one index. -/
theorem idx0 (j k : S_.Idx) : j = k := funext fun a => a.elim0

/-- The sign of a word. -/
def sgn (x : BitVec 32) : BitVec 32 := if x = 0 then 0 else if x.msb then -1 else 1

/-- The quotient rounded down, from the one rounded to zero. -/
def fdiv (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

theorem divsi64 (x : BitVec 32) : IntOp.divsi .host x 64#32 = x.sdiv 64#32 := by
  unfold IntOp.divsi
  exact if_neg (by rintro (h | ⟨_, h⟩) <;> revert h <;> decide)

theorem remsi64 (x : BitVec 32) : IntOp.remsi .host x 64#32 = x.srem 64#32 := by
  unfold IntOp.remsi
  exact if_neg (by rintro (h | ⟨_, h⟩) <;> revert h <;> decide)

theorem fdiv64 (x : BitVec 32) : fdiv x 64#32
    = Scalar.select (IntOp.andi (IntOp.cmpi .ne (sgn x) (sgn 64#32)) (IntOp.cmpi .ne (x.srem 64#32) 0#32))
      (IntOp.subi (x.sdiv 64#32) 1#32) (x.sdiv 64#32) := by
  rw [fdiv, divsi64, remsi64]

/-- The chunk of a key column. -/
theorem fdiv_col (c : Fin 768) : fdiv (BitVec.ofNat 32 c) 64#32 = BitVec.ofNat 32 (c / 64) := by
  rw [fdiv64]
  revert c
  decide +kernel

/-- The chunk of a query row. -/
theorem fdiv_row (a : Fin 256) : fdiv (BitVec.ofNat 32 a) 64#32 = BitVec.ofNat 32 (a / 64) :=
  fdiv_col ⟨a.val, by omega⟩

variable (W : Idealize.ShloMosaic.Valuation τ sig (Elt Ideal))

/-- The mask of the last group: the bias where the band is set, the last constant elsewhere. -/
theorem g7_v43 (i : S8x256x768.Idx) :
    (StableHlo.after (hostOps0_7 (F := Ideal)) W (Proc.devRef .tc main_v43) : S8x256x768.Idx → EReal) i
      = Scalar.select ((W (Proc.devRef .tc main_v42) : S1x256x768.Idx → BitVec 1) (ix3 0 (i 1) (i 2)))
        ((W (Proc.devRef .tc main_v41) : S8x256x768.Idx → EReal) i) ((W (Proc.devRef .tc main_cst_10) : S_.Idx → EReal) ix0) := by
  entry_read
  show Scalar.select (broadcastInDim S8x256x768 ![0, 1, 2] bcast_S1x256x768_S8x256x768_0_1_2 (W (Proc.devRef .tc main_v42) : S1x256x768.Idx → BitVec 1) i) _
    (broadcastInDim S8x256x768 ![] bcast_S_S8x256x768 (W (Proc.devRef .tc main_cst_10) : S_.Idx → EReal) i) = _
  generalize hX : (W (Proc.devRef .tc main_v42) : S1x256x768.Idx → BitVec 1) = X
  generalize hY : (W (Proc.devRef .tc main_cst_10) : S_.Idx → EReal) = Y
  have e1 : broadcastInDim S8x256x768 ![0, 1, 2] bcast_S1x256x768_S8x256x768_0_1_2 X i = X (ix3 0 (i 1) (i 2)) := by pointwise
  have e2 : broadcastInDim S8x256x768 ![] bcast_S_S8x256x768 Y i = Y ix0 := congrArg Y (idx0 _ _)
  rw [e1, e2]
  rfl

theorem g7_v11 : StableHlo.after (hostOps0_7 (F := Ideal)) W (Proc.devRef .tc main_v11) = W (Proc.devRef .tc main_v11) := by
  entry_read
  rfl

/-- The concatenated row of the bias table: the far distances, the near ones reversed, one zero. -/
theorem g6_v35 (h : Fin 8) (n : Fin 1024) :
    (StableHlo.after ((hostOps0_6 (F := Ideal)).take 3) W (Proc.devRef .tc main_v35) : S8x1024.Idx → EReal) (ix2 h n)
      = @dite EReal (n.val < 511) _ (fun h1 => (W (Proc.devRef .tc main_v31) : S8x511.Idx → EReal) (ix2 h ⟨n.val, h1⟩)) fun h1 =>
        @dite EReal (n.val < 1023) _ (fun h2 => (W (Proc.devRef .tc main_v33) : S8x512.Idx → EReal) (ix2 h ⟨n.val - 511, by omega⟩)) fun _ => 0 := by
  have e31 : StableHlo.after ((hostOps0_6 (F := Ideal)).take 2) W (Proc.devRef .tc main_v31) = W (Proc.devRef .tc main_v31) := by
    simp only [List.take]; entry_read; rfl
  have e33 : StableHlo.after ((hostOps0_6 (F := Ideal)).take 2) W (Proc.devRef .tc main_v33) = W (Proc.devRef .tc main_v33) := by
    simp only [List.take]; entry_read; rfl
  have e34 : StableHlo.after ((hostOps0_6 (F := Ideal)).take 2) W (Proc.devRef .tc main_v34)
      = broadcastInDim S8x1 ![] bcast_S_S8x1 (constant (F := Ideal) S_ .f32 0x00000000#32) := by
    simp only [List.take]; entry_read; rfl
  have key : (StableHlo.after ((hostOps0_6 (F := Ideal)).take 3) W (Proc.devRef .tc main_v35) : S8x1024.Idx → EReal)
      = concatenate S8x1024 1 [⟨S8x511, (StableHlo.after ((hostOps0_6 (F := Ideal)).take 2) W (Proc.devRef .tc main_v31) : S8x511.Idx → EReal)⟩,
        ⟨S8x512, (StableHlo.after ((hostOps0_6 (F := Ideal)).take 2) W (Proc.devRef .tc main_v33) : S8x512.Idx → EReal)⟩,
        ⟨S8x1, (StableHlo.after ((hostOps0_6 (F := Ideal)).take 2) W (Proc.devRef .tc main_v34) : S8x1.Idx → EReal)⟩]
        concatenates_S8x511_S8x512_S8x1_S8x1024_d1 := by
    simp only [List.take]
    rw [StableHlo.after_cons, StableHlo.after_cons, StableHlo.after_cons, StableHlo.after_nil, StableHlo.nary_result]
    rfl
  rw [key, e31, e33, e34]
  generalize (W (Proc.devRef .tc main_v31) : S8x511.Idx → EReal) = u
  generalize (W (Proc.devRef .tc main_v33) : S8x512.Idx → EReal) = v
  pointwise
  split_ifs with h1 h2 h3 h3 <;> first | rfl | (exfalso; omega) | rw [dif_pos (show n.val < 1023 by omega)]

/-- The skewed rows: row `a` of the bias is the concatenated row from position `a * 1023 + 255`, modulo its length. -/
theorem skew (X : S8x1024.Idx → EReal) (h : Fin 8) (a : Fin 256) (c : Fin 768) :
    extractStridedSlice S8x256x768 ![0, 0, 255] (shapeCast S8x256x1023 (extractStridedSlice S8x261888 ![0, 0] (shapeCast S8x262144
      (broadcastInDim S1x8x256x1024 ![0, 1, 2, 3] bcast_S1x8x1x1024_S1x8x256x1024_0_1_2_3
        (shapeCast S1x8x1x1024 X shapeCasts_S8x1024_S1x8x1x1024)) shapeCasts_S1x8x256x1024_S8x262144)
      slices_S8x262144_S8x261888_0_0) shapeCasts_S8x261888_S8x256x1023) slices_S8x256x1023_S8x256x768_0_0_255 (ix3 h a c)
      = X (ix2 h ⟨(a.val * 1023 + (255 + c.val)) % 1024, by omega⟩) := by
  pointwise

theorem g6_v41 (h : Fin 8) (a : Fin 256) (c : Fin 768) :
    (StableHlo.after (hostOps0_6 (F := Ideal)) W (Proc.devRef .tc main_v41) : S8x256x768.Idx → EReal) (ix3 h a c)
      = (StableHlo.after ((hostOps0_6 (F := Ideal)).take 3) W (Proc.devRef .tc main_v35) : S8x1024.Idx → EReal)
        (ix2 h ⟨(a.val * 1023 + (255 + c.val)) % 1024, by omega⟩) := by
  rw [← skew (StableHlo.after ((hostOps0_6 (F := Ideal)).take 3) W (Proc.devRef .tc main_v35))]
  show (StableHlo.after ((hostOps0_6 (F := Ideal)).take 3 ++ (hostOps0_6 (F := Ideal)).drop 3) W (Proc.devRef .tc main_v41) : S8x256x768.Idx → EReal) _ = _
  rw [after_append]
  generalize StableHlo.after ((hostOps0_6 (F := Ideal)).take 3) W = W'
  simp only [List.drop]
  entry_read
  rfl

theorem g6_v42 (a : Fin 256) (c : Fin 768) :
    (StableHlo.after (hostOps0_6 (F := Ideal)) W (Proc.devRef .tc main_v42) : S1x256x768.Idx → BitVec 1) (ix3 0 a c)
      = (W (Proc.devRef .tc main_v29) : S256x768.Idx → BitVec 1) (ix2 a c) := by
  entry_read
  pointwise

theorem g6_cst (i : S_.Idx) : (StableHlo.after (hostOps0_6 (F := Ideal)) W (Proc.devRef .tc main_cst_10) : S_.Idx → EReal) i = (⊥ : EReal) := by
  have e : StableHlo.after (hostOps0_6 (F := Ideal)) W (Proc.devRef .tc main_cst_10) = constant (F := Ideal) S_ .f32 0xFF800000#32 := by
    entry_read
    rfl
  rw [e]
  show Ideal.ofBits .f32 0xFF800000#32 = ⊥
  simp [Ideal.ofBits, Ideal.ieee]

theorem g6_v11 : StableHlo.after (hostOps0_6 (F := Ideal)) W (Proc.devRef .tc main_v11) = W (Proc.devRef .tc main_v11) := by
  entry_read
  rfl

/-- The near distances reversed. -/
theorem g5_v33 (h : Fin 8) (n : Fin 512) :
    (StableHlo.after (hostOps0_5 (F := Ideal)) W (Proc.devRef .tc main_v33) : S8x512.Idx → EReal) (ix2 h n)
      = (W (Proc.devRef .tc main_v32) : S8x512.Idx → EReal) (ix2 h n.rev) := by
  have e : StableHlo.after (hostOps0_5 (F := Ideal)) W (Proc.devRef .tc main_v33)
      = Host.reverse [1] (W (Proc.devRef .tc main_v32) : S8x512.Idx → EReal) := by
    entry_read
    rfl
  rw [e]
  generalize (W (Proc.devRef .tc main_v32) : S8x512.Idx → EReal) = u
  pointwise
  rfl

theorem g5_v31 : StableHlo.after (hostOps0_5 (F := Ideal)) W (Proc.devRef .tc main_v31) = W (Proc.devRef .tc main_v31) := by
  entry_read
  rfl
theorem g5_v29 : StableHlo.after (hostOps0_5 (F := Ideal)) W (Proc.devRef .tc main_v29) = W (Proc.devRef .tc main_v29) := by
  entry_read
  rfl
theorem g5_v11 : StableHlo.after (hostOps0_5 (F := Ideal)) W (Proc.devRef .tc main_v11) = W (Proc.devRef .tc main_v11) := by
  entry_read
  rfl

/-- The band: the chunk distance lies between 0 and 8. -/
theorem g4_v29 (a : Fin 256) (c : Fin 768) :
    (StableHlo.after (hostOps0_4 (F := Ideal)) W (Proc.devRef .tc main_v29) : S256x768.Idx → BitVec 1) (ix2 a c)
      = IntOp.andi
        (IntOp.cmpi .sge (IntOp.subi ((W (Proc.devRef .tc main_v18) : S1x768.Idx → BitVec 32) (ix2 0 c))
          ((W (Proc.devRef .tc main_v21) : S256x1.Idx → BitVec 32) (ix2 a 0))) 0#32)
        (IntOp.cmpi .sle (IntOp.subi ((W (Proc.devRef .tc main_v18) : S1x768.Idx → BitVec 32) (ix2 0 c))
          ((W (Proc.devRef .tc main_v21) : S256x1.Idx → BitVec 32) (ix2 a 0))) 8#32) := by
  entry_read
  pointwise

theorem g4_v31 (h : Fin 8) (n : Fin 511) :
    (StableHlo.after (hostOps0_4 (F := Ideal)) W (Proc.devRef .tc main_v31) : S8x511.Idx → EReal) (ix2 h n)
      = (W (Proc.devRef .tc main_v15) : S8x513.Idx → EReal) (ix2 h 512) := by
  entry_read
  pointwise
theorem g4_v32 (h : Fin 8) (n : Fin 512) :
    (StableHlo.after (hostOps0_4 (F := Ideal)) W (Proc.devRef .tc main_v32) : S8x512.Idx → EReal) (ix2 h n)
      = (W (Proc.devRef .tc main_v15) : S8x513.Idx → EReal) (ix2 h ⟨1 + n.val, by omega⟩) := by
  entry_read
  pointwise
theorem g4_v11 : StableHlo.after (hostOps0_4 (F := Ideal)) W (Proc.devRef .tc main_v11) = W (Proc.devRef .tc main_v11) := by
  entry_read
  rfl

/-- The chunks of the query rows. -/
theorem g3_v21 (i : S256x1.Idx) :
    (StableHlo.after (hostOps0_3 (F := Ideal)) W (Proc.devRef .tc main_v21) : S256x1.Idx → BitVec 32) i
      = fdiv ((W (Proc.devRef .tc main_v20) : S256x1.Idx → BitVec 32) i) ((W (Proc.devRef .tc main_c_6) : S_.Idx → BitVec 32) ix0) := by
  entry_read
  show fdiv ((W (Proc.devRef .tc main_v20) : S256x1.Idx → BitVec 32) i) ((W (Proc.devRef .tc main_c_6) : S_.Idx → BitVec 32) _) = _
  exact congrArg _ (congrArg _ (idx0 _ _))
theorem g3_v18 : StableHlo.after (hostOps0_3 (F := Ideal)) W (Proc.devRef .tc main_v18) = W (Proc.devRef .tc main_v18) := by
  entry_read
  rfl
theorem g3_v15 : StableHlo.after (hostOps0_3 (F := Ideal)) W (Proc.devRef .tc main_v15) = W (Proc.devRef .tc main_v15) := by
  entry_read
  rfl
theorem g3_v11 : StableHlo.after (hostOps0_3 (F := Ideal)) W (Proc.devRef .tc main_v11) = W (Proc.devRef .tc main_v11) := by
  entry_read
  rfl

theorem g2_v20 (i : S256x1.Idx) :
    (StableHlo.after (hostOps0_2 (F := Ideal)) W (Proc.devRef .tc main_v20) : S256x1.Idx → BitVec 32) i = BitVec.ofNat 32 (i 0).val := by
  entry_read
  pointwise
theorem g2_c6 (i : S_.Idx) : (StableHlo.after (hostOps0_2 (F := Ideal)) W (Proc.devRef .tc main_c_6) : S_.Idx → BitVec 32) i = 64#32 := by
  entry_read
  rfl
theorem g2_v18 : StableHlo.after (hostOps0_2 (F := Ideal)) W (Proc.devRef .tc main_v18) = W (Proc.devRef .tc main_v18) := by
  entry_read
  rfl
theorem g2_v15 : StableHlo.after (hostOps0_2 (F := Ideal)) W (Proc.devRef .tc main_v15) = W (Proc.devRef .tc main_v15) := by
  entry_read
  rfl
theorem g2_v11 : StableHlo.after (hostOps0_2 (F := Ideal)) W (Proc.devRef .tc main_v11) = W (Proc.devRef .tc main_v11) := by
  entry_read
  rfl

/-- The chunks of the key columns. -/
theorem g1_v18 (i : S1x768.Idx) :
    (StableHlo.after (hostOps0_1 (F := Ideal)) W (Proc.devRef .tc main_v18) : S1x768.Idx → BitVec 32) i
      = fdiv ((W (Proc.devRef .tc main_v17) : S1x768.Idx → BitVec 32) i) ((W (Proc.devRef .tc main_c_5) : S_.Idx → BitVec 32) ix0) := by
  entry_read
  show fdiv ((W (Proc.devRef .tc main_v17) : S1x768.Idx → BitVec 32) i) ((W (Proc.devRef .tc main_c_5) : S_.Idx → BitVec 32) _) = _
  exact congrArg _ (congrArg _ (idx0 _ _))
theorem g1_v15 : StableHlo.after (hostOps0_1 (F := Ideal)) W (Proc.devRef .tc main_v15) = W (Proc.devRef .tc main_v15) := by
  entry_read
  rfl
theorem g1_v11 : StableHlo.after (hostOps0_1 (F := Ideal)) W (Proc.devRef .tc main_v11) = W (Proc.devRef .tc main_v11) := by
  entry_read
  rfl

/-- The bias table times log2(e), as the host computes it. -/
theorem g0_v15 (i : S8x513.Idx) :
    (StableHlo.after (hostOps0 (F := Ideal)) W (Proc.devRef .tc main_v15) : S8x513.Idx → EReal) i
      = @HMul.hMul EReal EReal EReal _ ((W (Proc.devRef .tc main_arg1) : S8x513.Idx → EReal) i)
        (Ideal.div 1 (Ideal.log (Ideal.ofBits .f32 1073741824#32))) := by
  entry_read
  pointwise
theorem g0_v17 (i : S1x768.Idx) :
    (StableHlo.after (hostOps0 (F := Ideal)) W (Proc.devRef .tc main_v17) : S1x768.Idx → BitVec 32) i = BitVec.ofNat 32 (i 1).val := by
  entry_read
  pointwise
theorem g0_c5 (i : S_.Idx) : (StableHlo.after (hostOps0 (F := Ideal)) W (Proc.devRef .tc main_c_5) : S_.Idx → BitVec 32) i = 64#32 := by
  entry_read
  rfl
/-- The projections times the column scale. -/
theorem g0_v11 (i : S16x2048x15360.Idx) :
    (StableHlo.after (hostOps0 (F := Ideal)) W (Proc.devRef .tc main_v11) : S16x2048x15360.Idx → EReal) i
      = @HMul.hMul EReal EReal EReal _ ((W (Proc.devRef .tc main_arg0) : S16x2048x15360.Idx → EReal) i)
        (Host.scatter scatter_S15360_S1_S1024_0_n_0_0 (fun _ b => b)
          (broadcastInDim S15360 ![] bcast_S_S15360 (constant (F := Ideal) S_ .f32 0x3F800000#32))
          (broadcastInDim S1 ![] bcast_S_S1 (constantI S_ 32 12288#32))
          (broadcastInDim S1024 ![] bcast_S_S1024 (mulf (constant (F := Ideal) S_ .f32 0x3DB504F3#32)
            (Host.divf (constant (F := Ideal) S_ .f32 0x3F800000#32) (Host.log (constant (F := Ideal) S_ .f32 0x40000000#32))))) (ix1 (i 2))) := by
  entry_read
  pointwise

end Cert.Att

end
-- ==== Proof.Att.Host.lean ====
/- The two operands of the attention kernel in closed form: the scaled projections and the bias with its band. -/
module

public import proofs.«01_k».proof.Proof.Att.HostOps
public import proofs.«01_k».proof.Proof.Att.Row

@[expose] public section

set_option maxRecDepth 16384

noncomputable section

namespace Cert.Att

open Idealize.ShloMosaic Idealize.ShloMosaic.TcCoe Idealize.SL.Sem
open Cert.KernelIdeal Cert.KernelIdeal.Gen

/-- A scatter that stores whole updates at distinct places: an element met by the update at `n` is that update. -/
theorem scatter_set_eq {s si u : Shape} {w : ℕ} {α : Type} (d : ScatterDims s si u) (x : s.Idx → α) (idx : IVec si w)
    (c : α) (i : s.Idx) (n : Fin u.numel) (hn : d.resultIdx? (u.rowMajor.symm n) idx = some i) :
    Host.scatter d (fun _ b => b) x idx (fun _ => c) i = c := by
  unfold Host.scatter
  have key : ∀ (l : List (Fin u.numel)) (r : s.Idx → α), (n ∈ l ∨ r i = c) →
      (l.foldl (fun r n => match d.resultIdx? (u.rowMajor.symm n) idx with
        | some i => fun i' => if i' = i then c else r i'
        | none => r) r) i = c := by
    intro l
    induction l with
    | nil => intro r h; exact h.resolve_left (List.not_mem_nil)
    | cons a l ih =>
      intro r h
      rw [List.foldl_cons]
      apply ih
      rcases h with h | h
      · rcases List.mem_cons.1 h with h | h
        · right
          subst h
          simp only [hn, if_true]
        · exact Or.inl h
      · right
        cases hd : d.resultIdx? (u.rowMajor.symm a) idx with
        | none => exact h
        | some k =>
          show (if i = k then c else r i) = c
          split_ifs
          · rfl
          · exact h
  exact key _ _ (Or.inl (List.mem_finRange n))

/-- An element no update meets keeps its value. -/
theorem scatter_set_ne {s si u : Shape} {w : ℕ} {α : Type} (d : ScatterDims s si u) (x : s.Idx → α) (idx : IVec si w)
    (c : α) (i : s.Idx) (hn : ∀ n : Fin u.numel, d.resultIdx? (u.rowMajor.symm n) idx ≠ some i) :
    Host.scatter d (fun _ b => b) x idx (fun _ => c) i = x i := by
  unfold Host.scatter
  have key : ∀ (l : List (Fin u.numel)) (r : s.Idx → α), r i = x i →
      (l.foldl (fun r n => match d.resultIdx? (u.rowMajor.symm n) idx with
        | some i => fun i' => if i' = i then c else r i'
        | none => r) r) i = x i := by
    intro l
    induction l with
    | nil => intro r h; exact h
    | cons a l ih =>
      intro r h
      rw [List.foldl_cons]
      apply ih
      cases hd : d.resultIdx? (u.rowMajor.symm a) idx with
      | none => exact h
      | some k =>
        show (if i = k then c else r i) = x i
        rw [if_neg (fun e => hn a (by rw [hd, e])), h]
  exact key _ _ rfl

/-- The 32-bit word of 2 is 2. -/
theorem two_f32 : Ideal.ofBits .f32 1073741824#32 = ((2 : ℝ) : EReal) := by
  simp [Ideal.ofBits, Ideal.ieee]
  rw [← EReal.coe_mul]
  norm_num

/-- log2(e) as the host computes it. -/
theorem div_log : Ideal.div 1 (Ideal.log (Ideal.ofBits .f32 1073741824#32)) = ((log2e : ℝ) : EReal) := by
  have hl : Real.log 2 ≠ 0 := (Real.log_pos (by norm_num)).ne'
  rw [two_f32, Ideal.log_coe, if_neg (by norm_num)]
  unfold Ideal.div
  rw [if_neg (by exact_mod_cast hl), one_mul, ← EReal.coe_inv]
  rfl

/-- The scale of the scores. -/
def scale : EReal := Ideal.ofBits .f32 0x3DB504F3#32

theorem scale_pos : ∃ r : ℝ, 0 < r ∧ scale = (r : EReal) := by
  refine ⟨11863283 * (2 ^ 27)⁻¹, by positivity, ?_⟩
  unfold scale
  simp [Ideal.ofBits, Ideal.ieee]

/-- Where the update at `u` goes: 12288 places further. -/
theorem scatter_place (u : S1024.Idx) (h : 12288 + (u 0).val < 15360) :
    scatter_S15360_S1_S1024_0_n_0_0.resultIdx? u (broadcastInDim S1 ![] bcast_S_S1 (constantI S_ 32 12288#32))
      = some (ix1 ⟨12288 + (u 0).val, h⟩) := by
  have hs : ∀ a, scatter_S15360_S1_S1024_0_n_0_0.start u (broadcastInDim S1 ![] bcast_S_S1 (constantI S_ 32 12288#32)) a = 12288 := by
    intro a
    obtain rfl : a = 0 := Subsingleton.elim _ _
    rfl
  have hw : ∀ a, scatter_S15360_S1_S1024_0_n_0_0.window u a = (u 0).val := by
    intro a
    obtain rfl : a = 0 := Subsingleton.elim _ _
    rfl
  unfold ScatterDims.resultIdx?
  simp only [hs, hw]
  rw [dif_pos (fun a => by obtain rfl : a = 0 := Subsingleton.elim _ _; exact ⟨by omega, by show (12288 : ℤ) + _ < (15360 : ℕ); omega⟩)]
  congr 1
  funext a
  obtain rfl : a = 0 := Subsingleton.elim _ _
  apply Fin.ext
  show ((12288 : ℤ) + ((u 0).val : ℤ)).toNat = 12288 + (u 0).val
  omega

variable (m : (ℓ : Loc nD τ sig) → Buf (Elt Ideal) ℓ) (c : Dev nD)

/-- The projections as given. -/
abbrev proj : S16x2048x15360.Idx → EReal := m ((c : Thread nD τ).loc main_arg0)

/-- The table of relative-distance biases as given. -/
abbrev rel : S8x513.Idx → EReal := m ((c : Thread nD τ).loc main_arg1)

/-- The projections the kernel reads: the query columns times the scale and log2(e), the others as they are. -/
theorem v11_eq (b : Fin 16) (t : Fin 2048) (k : Fin 15360) :
    (V m c main_v11 : S16x2048x15360.Idx → EReal) (ix3 b t k)
      = proj m c (ix3 b t k) * (if 12288 ≤ k.val ∧ k.val < 13312 then scale * (log2e : EReal) else 1) := by
  simp only [V, List.flatten_cons, List.flatten_nil, List.append_nil, after_append]
  rw [g7_v11, g6_v11, g5_v11, g4_v11, g3_v11, g2_v11, g1_v11, g0_v11]
  congr 1
  have hu : (broadcastInDim S1024 ![] bcast_S_S1024 (mulf (constant (F := Ideal) S_ .f32 0x3DB504F3#32)
      (Host.divf (constant (F := Ideal) S_ .f32 0x3F800000#32) (Host.log (constant (F := Ideal) S_ .f32 0x40000000#32)))) : S1024.Idx → EReal)
      = fun _ => scale * (log2e : EReal) := by
    funext u
    rw [← div_log]
    pointwise
    rfl
  rw [hu]
  split_ifs with h
  · obtain ⟨n, hn⟩ : ∃ n, S1024.rowMajor.symm n = ix1 ⟨k.val - 12288, by omega⟩ := S1024.rowMajor.symm.surjective _
    have hk : 12288 + (k.val - 12288) = k.val := by omega
    have h0 : ((S1024.rowMajor.symm n) 0).val = k.val - 12288 := by rw [hn]; rfl
    refine scatter_set_eq _ _ _ _ _ n ?_
    rw [scatter_place _ (by omega)]
    exact congrArg some (congrArg ix1 (Fin.ext (by show _ + _ = _; rw [h0]; exact hk)))
  · rw [scatter_set_ne]
    · pointwise
    · intro n hn
      have hb := ((S1024.rowMajor.symm n) 0).isLt
      have hb' : ((S1024.rowMajor.symm n) 0).val < 1024 := hb
      rw [scatter_place _ (by omega)] at hn
      have := congrArg (fun j : S15360.Idx => (j 0).val) (Option.some.inj hn)
      have h2 : 12288 + ((S1024.rowMajor.symm n) 0).val = k.val := this
      omega

/-- The band test on chunks, as words. -/
theorem band_eq (a : Fin 256) (k : Fin 768) :
    IntOp.andi (IntOp.cmpi .sge (IntOp.subi (BitVec.ofNat 32 (k.val / 64)) (BitVec.ofNat 32 (a.val / 64))) 0#32)
      (IntOp.cmpi .sle (IntOp.subi (BitVec.ofNat 32 (k.val / 64)) (BitVec.ofNat 32 (a.val / 64))) 8#32)
      = if a.val / 64 ≤ k.val / 64 ∧ k.val / 64 ≤ a.val / 64 + 8 then 1#1 else 0#1 := by
  have key : ∀ (x : Fin 12) (y : Fin 4),
      IntOp.andi (IntOp.cmpi .sge (IntOp.subi (BitVec.ofNat 32 x.val) (BitVec.ofNat 32 y.val)) 0#32)
        (IntOp.cmpi .sle (IntOp.subi (BitVec.ofNat 32 x.val) (BitVec.ofNat 32 y.val)) 8#32)
        = if y.val ≤ x.val ∧ x.val ≤ y.val + 8 then 1#1 else 0#1 := by decide +kernel
  exact key ⟨k.val / 64, by omega⟩ ⟨a.val / 64, by omega⟩

/-- The bias the kernel adds: inside the band the table at the clipped distance, times log2(e); outside ⊥. -/
theorem v43_eq (h : Fin 8) (a : Fin 256) (k : Fin 768) :
    (V m c main_v43 : S8x256x768.Idx → EReal) (ix3 h a k)
      = if a.val / 64 ≤ k.val / 64 ∧ k.val / 64 ≤ a.val / 64 + 8 then
          rel m c (ix2 h ⟨min (768 + a.val - k.val) 512, by omega⟩) * (log2e : EReal)
        else ⊥ := by
  simp only [V, List.flatten_cons, List.flatten_nil, List.append_nil, after_append]
  rw [g7_v43, g6_cst]
  have e42 : ∀ W, (StableHlo.after (hostOps0_6 (F := Ideal)) W (Proc.devRef .tc main_v42) : S1x256x768.Idx → BitVec 1) (ix3 0 a k)
      = (W (Proc.devRef .tc main_v29) : S256x768.Idx → BitVec 1) (ix2 a k) := fun W => g6_v42 W a k
  have hsel : ∀ (q : Prop) [Decidable q] (x : EReal), Scalar.select (if q then 1#1 else 0#1) x ⊥ = if q then x else ⊥ := by
    intro q _ x
    by_cases hq : q
    · simp [hq, Scalar.select]
    · simp [hq, Scalar.select]
  rw [show (ix3 h a k : S8x256x768.Idx) 1 = a from rfl, show (ix3 h a k : S8x256x768.Idx) 2 = k from rfl]
  rw [e42, g5_v29, g4_v29, g3_v21, g3_v18, g2_v20, g2_c6, g2_v18, g1_v18, g0_v17, g0_c5]
  rw [show ((ix2 0 k : S1x768.Idx) 1).val = k.val from rfl, show ((ix2 a 0 : S256x1.Idx) 0).val = a.val from rfl, fdiv_col, fdiv_row, band_eq,
    hsel]
  refine if_congr Iff.rfl ?_ rfl
  rw [g6_v41, g6_v35]
  have hn : (a.val * 1023 + (255 + k.val)) % 1024 = 255 + k.val - a.val := by omega
  simp only [hn]
  by_cases h1 : 255 + k.val - a.val < 511
  · rw [dif_pos h1, g5_v31, g4_v31, g3_v15, g2_v15, g1_v15, g0_v15, div_log]
    congr 3
    apply Fin.ext
    show 512 = min (768 + a.val - k.val) 512
    omega
  · rw [dif_neg h1, dif_pos (by omega), g5_v33, g4_v32, g3_v15, g2_v15, g1_v15, g0_v15, div_log]
    congr 3
    apply Fin.ext
    show 1 + (512 - (255 + k.val - a.val - 511 + 1)) = min (768 + a.val - k.val) 512
    omega

end Cert.Att

end
-- ==== Proof.Att.Score.lean ====
/- The score of a query and a key, and what one grid point of the attention kernel computes in its terms. -/
module

public import proofs.«01_k».proof.Proof.Att.Block
public import proofs.«01_k».proof.Proof.Att.Host

@[expose] public section

set_option maxRecDepth 16384

noncomputable section

namespace Cert.Att

open Idealize.ShloMosaic Idealize.ShloMosaic.TcCoe Idealize.SL.Sem
open Cert.KernelIdeal Cert.KernelIdeal.Gen

/-- Key `p - 512` is visible to query `t`: its chunk is the query's or one of the 8 before. -/
def visible (t p : ℕ) : Prop := 512 ≤ p ∧ t / 64 ≤ p / 64 ∧ p / 64 ≤ t / 64 + 8

instance (t p : ℕ) : Decidable (visible t p) := by unfold visible; infer_instance

/-- The score of query `t` and key `p - 512` under head `h`: the scaled inner product plus the bias of their distance;
    ⊥ where the key is not visible. -/
def score (P : S16x2048x15360.Idx → EReal) (T : S8x513.Idx → EReal) (b : Fin 16) (h : Fin 8) (t : Fin 2048) (p : Fin 2560) : EReal :=
  if visible t.val p.val then
    (∑ d : Fin 128, P (ix3 b t ⟨12288 + 128 * h.val + d.val, by omega⟩) * P (ix3 b ⟨p.val - 512, by omega⟩ ⟨13312 + 128 * h.val + d.val, by omega⟩))
      * scale + T (ix2 h ⟨min (768 + t.val - p.val) 512, by omega⟩)
  else ⊥

/-- The value of key `p - 512` in the column `k` of the result. -/
def value (P : S16x2048x15360.Idx → EReal) (b : Fin 16) (k : Fin 1024) (p : Fin 2560) : EReal :=
  P (ix3 b ⟨p.val - 512, by omega⟩ ⟨14336 + k.val, by omega⟩)

/-- The attention: one row of quotients over the weights 2 ^ (log2(e) * score). -/
def attn (P : S16x2048x15360.Idx → EReal) (T : S8x513.Idx → EReal) (b : Fin 16) (t : Fin 2048) (k : Fin 1024) : EReal :=
  rowQuot (fun p => (log2e : EReal) * score P T b ⟨k.val / 128, by omega⟩ t p) (value P b k)

/-- The scaled query times the key, plus the scaled bias, is log2(e) times the score. -/
theorem scaled (f g : Fin 128 → EReal) (x : EReal) :
    (∑ d, f d * (scale * (log2e : EReal)) * g d) + x * (log2e : EReal) = (log2e : EReal) * ((∑ d, f d * g d) * scale + x) := by
  obtain ⟨r, hr, hs⟩ := scale_pos
  have hl := log2e_pos
  rw [EReal.left_distrib_of_nonneg_of_ne_top (by exact_mod_cast hl.le) (EReal.coe_ne_top _), mul_comm x, hs, ← EReal.coe_mul]
  congr 1
  rw [mul_comm (∑ d, f d * g d), ← mul_assoc, ← EReal.coe_mul, coe_mul_sum _ _ (by positivity)]
  refine Finset.sum_congr rfl fun d _ => ?_
  rw [mul_comm (f d), mul_assoc, mul_comm r]

/-- A grid point's output block, its operands the blocks of the batch `b` and the half `hf` of the heads. -/
theorem blkRow_eq (P : S16x2048x15360.Idx → EReal) (T : S8x513.Idx → EReal) (x0 x1 x2 : Vec Ideal S1x2048x512 .bf16)
    (x3 : Vec Ideal S4x256x768 .f32) (b : Fin 16) (hf : ℕ) (hhf : hf < 2)
    (h0 : ∀ (t : Fin 2048) (d : Fin 512), x0 (ix3 0 t d) = P (ix3 b t ⟨12288 + (512 * hf + d.val), by omega⟩) * (scale * (log2e : EReal)))
    (h1 : ∀ (t : Fin 2048) (d : Fin 512), x1 (ix3 0 t d) = P (ix3 b t ⟨13312 + (512 * hf + d.val), by omega⟩))
    (h2 : ∀ (t : Fin 2048) (d : Fin 512), x2 (ix3 0 t d) = P (ix3 b t ⟨14336 + (512 * hf + d.val), by omega⟩))
    (h3 : ∀ (hh : Fin 4) (a : Fin 256) (k : Fin 768), x3 (ix3 hh a k)
      = if a.val / 64 ≤ k.val / 64 ∧ k.val / 64 ≤ a.val / 64 + 8 then
          T (ix2 ⟨4 * hf + hh.val, by omega⟩ ⟨min (768 + a.val - k.val) 512, by omega⟩) * (log2e : EReal) else ⊥)
    (t : Fin 2048) (c : Fin 512) :
    blkRow x0 x1 x2 x3 t c = attn P T b t ⟨512 * hf + c.val, by omega⟩ := by
  have hl := log2e_pos
  have e3 : ∀ (b : Fin 16) (t : Fin 2048) (x y : Fin 15360), x.val = y.val → P (ix3 b t x) = P (ix3 b t y) :=
    fun b t x y h => by rw [Fin.ext h]
  have e2 : ∀ (h h' : Fin 8) (x y : Fin 513), h.val = h'.val → x.val = y.val → T (ix2 h x) = T (ix2 h' y) :=
    fun h h' x y g g' => by rw [Fin.ext g, Fin.ext g']
  have hbot : (log2e : EReal) * ⊥ = ⊥ := EReal.coe_mul_bot_of_pos hl
  unfold blkRow attn
  congr 1
  · funext p
    unfold blkScore score
    by_cases hw : inWindow t.val p.val
    · rw [dif_pos hw, h3]
      have hw' := hw
      obtain ⟨w1, w2, w3⟩ := hw'
      by_cases hv : visible t.val p.val
      · have hv' := hv
        obtain ⟨v1, v2, v3⟩ := hv'
        rw [if_pos hv, if_pos (show t.val % 256 / 64 ≤ (p.val - 256 * (t.val / 256)) / 64
          ∧ (p.val - 256 * (t.val / 256)) / 64 ≤ t.val % 256 / 64 + 8 by omega), ← scaled]
        congr 1
        · refine Finset.sum_congr rfl fun d _ => ?_
          rw [h0, h1]
          refine congrArg₂ _ (congrArg (· * _) (e3 _ _ _ _ ?_)) (e3 _ _ _ _ ?_) <;> (simp only []; omega)
        · refine congrArg (· * _) (e2 _ _ _ _ ?_ ?_) <;> (simp only []; omega)
      · rw [if_neg hv, if_neg (fun h => hv ⟨w1, by simp only [] at h; omega, by simp only [] at h; omega⟩), EReal.add_bot, hbot]
    · rw [dif_neg hw, if_neg (fun h => hw (by obtain ⟨v1, v2, v3⟩ := h; exact ⟨v1, by omega, by omega⟩)), hbot]
  · funext p
    rw [h2]
    rfl

end Cert.Att

end
-- ==== Proof.Att.Array.lean ====
/- What the attention kernel's result array holds. -/
module

public import proofs.«01_k».proof.Proof.Att.Tiles
public import proofs.«01_k».proof.Proof.Att.Score
public import proofs.«01_k».proof.Proof.Gen.KernelIdeal.Value

@[expose] public section

set_option maxRecDepth 16384

noncomputable section

namespace Cert.Att

open Idealize.ShloMosaic Idealize.ShloMosaic.TcCoe Idealize.SL.Sem
open Cert.KernelIdeal Cert.KernelIdeal.Gen

/-- Which block each window takes at a grid point: batch `t % 16`, half `t / 16` of the heads. -/
theorem idx : ∀ t : Fin cfg0.N, win0_0.index t = ![t.val % 16, 0, 24 + t.val / 16] ∧ win0_1.index t = ![t.val % 16, 0, 26 + t.val / 16]
    ∧ win0_2.index t = ![t.val % 16, 0, 28 + t.val / 16] ∧ win0_3.index t = ![t.val / 16, 0, 0]
    ∧ win0_4.index t = ![t.val % 16, 0, t.val / 16] := (by decide +kernel : ∀ t : Fin grid0.N, _)

variable (m : (ℓ : Loc nD τ sig) → Buf (Elt Ideal) ℓ) (c : Dev nD)

theorem final : (dats m 0 c).arrAt 4 cfg0.N
    = fun i : S16x2048x1024.Idx => attn (proj m c) (rel m c) (i 0) (i 1) (i 2) := by
  refine (dats m 0 c).arrAt_eq_of_covers 4 _ (by decide +kernel) fun t _ y => ?_
  have ht : t.val < 32 := lt_of_lt_of_eq t.isLt N_0
  blk_simp
  rw [after0_4, out_eq]
  refine Eq.trans (blkRow_eq (proj m c) (rel m c) (iblk m c 0 t) (iblk m c 1 t) (iblk m c 2 t) (iblk m c 3 t) ⟨t.val % 16, by omega⟩
    (t.val / 16) (by omega) ?_ ?_ ?_ ?_ (y 1) (y 2)) ?_
  · intro s d
    refine Eq.trans ?_ ((v11_eq m c ⟨t.val % 16, by omega⟩ s ⟨12288 + (512 * (t.val / 16) + d.val), by omega⟩).trans (by rw [if_pos ⟨by simp only []; omega, by simp only []; omega⟩]))
    blk_point [iblk, idx t]
  · intro s d
    refine Eq.trans ?_ ((v11_eq m c ⟨t.val % 16, by omega⟩ s ⟨13312 + (512 * (t.val / 16) + d.val), by omega⟩).trans (by rw [if_neg (by simp only []; omega), mul_one]))
    blk_point [iblk, idx t]
  · intro s d
    refine Eq.trans ?_ ((v11_eq m c ⟨t.val % 16, by omega⟩ s ⟨14336 + (512 * (t.val / 16) + d.val), by omega⟩).trans (by rw [if_neg (by simp only []; omega), mul_one]))
    blk_point [iblk, idx t]
  · intro hh a k
    refine Eq.trans ?_ (v43_eq m c ⟨4 * (t.val / 16) + hh.val, by omega⟩ a k)
    blk_point [iblk, idx t]
  · have hy0 : (y 0).val < 1 := (y 0).isLt
    have e0 : (⟨t.val % 16, by omega⟩ : Fin 16) = (win0_4.blk t).view.emb y 0 := Fin.ext (by blk_simp [idx t])
    have e1 : (y 1 : Fin 2048) = (win0_4.blk t).view.emb y 1 := Fin.ext (by blk_simp [idx t]; try omega)
    have e2 : (⟨512 * (t.val / 16) + (y 2).val, by have : (y 2).val < 512 := (y 2).isLt; omega⟩ : Fin 1024) = (win0_4.blk t).view.emb y 2 :=
      Fin.ext (show 512 * (t.val / 16) + (y 2).val = ((win0_4.blk t).view.emb y 2).val by blk_simp [idx t]; omega)
    rw [← e0, ← e1, ← e2]

end Cert.Att

end
-- ==== Proof.Att.Gather.lean ====
module

public import proofs.«01_k».proof.Proof.Gen.ReferenceIdeal.Read
public import Idealize.ShloMosaic.Lib.Pointwise

/-! What the reference's two gathers read. -/

@[expose] public section

set_option maxRecDepth 16384

noncomputable section

namespace Cert.AttRef

open Idealize.ShloMosaic Idealize.ShloMosaic.TcCoe Idealize.SL.Sem
open Cert.ReferenceIdeal Cert.ReferenceIdeal.Gen Cert.ReferenceIdeal.Read

/-- The gather of chunks reads, at slot `s` of query chunk `q`, the chunk the index array names there. -/
theorem gather_at (X : S16x40x64x8x128.Idx → EReal) (I : S32x9x1.Idx → BitVec 32) (b : Fin 16) (q : Fin 32) (s : Fin 9) (r : Fin 64)
    (h : Fin 8) (d : Fin 128) (n : Fin 40) (hn : (I (ix3 q s 0)).toInt = (n.val : ℤ)) :
    Host.gather gather_S16x40x64x8x128_S32x9x1_S16x32x9x64x8x128_0345_1_n_n_1_2_161648128 X I (ix6 b q s r h d) = X (ix5 b n r h d) := by
  refine congrArg X ?_
  funext a
  apply Fin.ext
  have hsi : gather_S16x40x64x8x128_S32x9x1_S16x32x9x64x8x128_0345_1_n_n_1_2_161648128.start (ix6 b q s r h d) I 1 = min (I (ix3 q s 0)).toInt.toNat 39 := by
    unfold GatherDims.start
    rw [dif_pos (by decide)]
    refine congrArg₂ min (congrArg (fun z : BitVec 32 => z.toInt.toNat) (congrArg I ?_)) rfl
    funext e
    match e with
    | ⟨0, _⟩ => rfl
    | ⟨1, _⟩ => rfl
    | ⟨2, _⟩ => rfl
  match a with
  | ⟨0, _⟩ => exact Nat.zero_add _
  | ⟨1, _⟩ =>
    show GatherDims.start _ _ _ 1 + _ + _ = _
    rw [hsi, hn]
    show min _ 39 + 0 + 0 = n.val
    have := n.isLt
    omega
  | ⟨2, _⟩ => exact Nat.zero_add _
  | ⟨3, _⟩ => exact Nat.zero_add _
  | ⟨4, _⟩ => exact Nat.zero_add _

/-- The gather from the relative table reads the entry the index array names. -/
theorem tgather_at (X : S8x513.Idx → EReal) (I : S64x576x1.Idx → BitVec 32) (h : Fin 8) (r : Fin 64) (j : Fin 576) (n : Fin 513)
    (hn : (I (ix3 r j 0)).toInt = (n.val : ℤ)) :
    Host.gather gather_S8x513_S64x576x1_S8x64x576_0_1_n_n_1_2_81 X I (ix3 h r j) = X (ix2 h n) := by
  refine congrArg X ?_
  funext a
  apply Fin.ext
  have hsi : gather_S8x513_S64x576x1_S8x64x576_0_1_n_n_1_2_81.start (ix3 h r j) I 1 = min (I (ix3 r j 0)).toInt.toNat 512 := by
    unfold GatherDims.start
    rw [dif_pos (by decide)]
    refine congrArg₂ min (congrArg (fun z : BitVec 32 => z.toInt.toNat) (congrArg I ?_)) rfl
    funext e
    match e with
    | ⟨0, _⟩ => rfl
    | ⟨1, _⟩ => rfl
    | ⟨2, _⟩ => rfl
  match a with
  | ⟨0, _⟩ => exact Nat.zero_add _
  | ⟨1, _⟩ =>
    show GatherDims.start _ _ _ 1 + _ + _ = _
    rw [hsi, hn]
    show min _ 512 + 0 + 0 = n.val
    have := n.isLt
    omega

/-- A word sum `q + s` of small numbers, with the index correction of a negative number left out. -/
theorem chunk_word (q : Fin 32) (s : Fin 9) :
    Scalar.select (IntOp.cmpi .slt (IntOp.addi (BitVec.ofNat 32 q.val) (BitVec.ofNat 32 s.val)) 0#32)
        (IntOp.addi (IntOp.addi (BitVec.ofNat 32 q.val) (BitVec.ofNat 32 s.val)) 40#32) (IntOp.addi (BitVec.ofNat 32 q.val) (BitVec.ofNat 32 s.val))
      = BitVec.ofNat 32 (q.val + s.val) := by
  revert q s
  decide +kernel

/-- The chunk that slot `s` of query chunk `q` holds: `q + s`. -/
theorem v21_at (q : Fin 32) (s : Fin 9) : val_main_v21 (F := Ideal) (ix3 q s 0) = BitVec.ofNat 32 (q.val + s.val) := by
  simp only [val_main_v21_apply, val_main_v20_apply, val_main_v19_apply, val_main_v17_apply, val_main_v18_apply, val_main_v16_apply, val_main_v15_apply, val_main_v14_apply, val_main_v13_apply,
    val_main_v12_apply, val_main_v11_apply, val_main_v10_apply, val_main_v9_apply]
  exact chunk_word q s

/-- The same for the values' index array. -/
theorem v29_at (q : Fin 32) (s : Fin 9) : val_main_v29 (F := Ideal) (ix3 q s 0) = BitVec.ofNat 32 (q.val + s.val) := by
  simp only [val_main_v29_apply, val_main_v28_apply, val_main_v27_apply, val_main_v26_apply, val_main_v25_apply, val_main_v24_apply, val_main_v15_apply, val_main_v14_apply, val_main_v13_apply,
    val_main_v12_apply, val_main_v11_apply, val_main_v10_apply, val_main_v9_apply]
  exact chunk_word q s

theorem dist_col (a : Fin 9) : IntOp.muli (IntOp.subi 8#32 (BitVec.ofNat 32 a.val)) 64#32 = BitVec.ofNat 32 (64 * (8 - a.val)) := by
  revert a
  decide +kernel

theorem dist_clip (n : Fin 640) :
    let e := IntOp.addi (IntOp.minsi 256#32 (IntOp.maxsi 4294967040#32 (IntOp.subi (BitVec.ofNat 32 n.val) 63#32))) 256#32
    Scalar.select (IntOp.cmpi .slt e 0#32) (IntOp.addi e 513#32) e = BitVec.ofNat 32 (min (193 + n.val) 512) := by
  revert n
  decide +kernel

theorem dist_shift (x r b : ℕ) (hb : b < 64) :
    IntOp.subi (IntOp.addi (BitVec.ofNat 32 x) (BitVec.ofNat 32 r)) (BitVec.ofNat 32 b)
      = IntOp.subi (BitVec.ofNat 32 (x + r + (63 - b))) 63#32 := by
  show BitVec.ofNat 32 x + BitVec.ofNat 32 r - BitVec.ofNat 32 b = BitVec.ofNat 32 (x + r + (63 - b)) - 63#32
  apply BitVec.eq_of_toNat_eq
  simp only [BitVec.toNat_sub, BitVec.toNat_add, BitVec.toNat_ofNat]
  omega

/-- The clipped distance's word, with the index correction of a negative number left out. -/
theorem dist_word (a : Fin 9) (r b : Fin 64) :
    let e := IntOp.addi (IntOp.minsi 256#32 (IntOp.maxsi 4294967040#32 (IntOp.subi (IntOp.addi (IntOp.muli (IntOp.subi 8#32 (BitVec.ofNat 32 a.val)) 64#32)
      (BitVec.ofNat 32 r.val)) (BitVec.ofNat 32 b.val)))) 256#32
    Scalar.select (IntOp.cmpi .slt e 0#32) (IntOp.addi e 513#32) e = BitVec.ofNat 32 (min (768 + r.val - (64 * a.val + b.val)) 512) := by
  have h := dist_clip ⟨64 * (8 - a.val) + r.val + (63 - b.val), by omega⟩
  rw [dist_col, dist_shift _ _ _ b.isLt]
  exact h.trans (congrArg (BitVec.ofNat 32) (by simp only []; omega))

theorem toInt_small (n : Nat) (h : n < 1024) : (BitVec.ofNat 32 n).toInt = (n : ℤ) := by
  rw [BitVec.toInt_eq_toNat_of_lt] <;> simp only [BitVec.toNat_ofNat] <;> omega

/-- The same word, of the parts of a row and a band slot. -/
theorem dist_at (r : Fin 64) (j : Fin 576) (x y z : ℕ) (hx : x = j.val / 64) (hy : y = r.val) (hz : z = j.val % 64) :
    Scalar.select (IntOp.cmpi .slt (IntOp.addi (IntOp.minsi 256#32 (IntOp.maxsi 4294967040#32 (IntOp.subi (IntOp.addi (IntOp.muli (IntOp.subi 8#32 (BitVec.ofNat 32 x)) 64#32)
      (BitVec.ofNat 32 y)) (BitVec.ofNat 32 z)))) 256#32) 0#32)
      (IntOp.addi (IntOp.addi (IntOp.minsi 256#32 (IntOp.maxsi 4294967040#32 (IntOp.subi (IntOp.addi (IntOp.muli (IntOp.subi 8#32 (BitVec.ofNat 32 x)) 64#32)
      (BitVec.ofNat 32 y)) (BitVec.ofNat 32 z)))) 256#32) 513#32)
      (IntOp.addi (IntOp.minsi 256#32 (IntOp.maxsi 4294967040#32 (IntOp.subi (IntOp.addi (IntOp.muli (IntOp.subi 8#32 (BitVec.ofNat 32 x)) 64#32)
      (BitVec.ofNat 32 y)) (BitVec.ofNat 32 z)))) 256#32) = BitVec.ofNat 32 (min (768 + r.val - j.val) 512) := by
  subst hx hy hz
  have h := dist_word ⟨j.val / 64, by omega⟩ r ⟨j.val % 64, by omega⟩
  have e4 : 64 * (j.val / 64) + j.val % 64 = j.val := by omega
  simp only [e4] at h
  exact h

/-- The table's column for row `r` of a chunk and band slot `j`. -/
theorem v61_at (r : Fin 64) (j : Fin 576) : val_main_v61 (F := Ideal) (ix3 r j 0) = BitVec.ofNat 32 (min (768 + r.val - j.val) 512) := by
  simp only [val_main_v61_apply, val_main_v60_apply, val_main_v59_apply, val_main_v58_apply, val_main_v57_apply, val_main_v56_apply, val_main_v55_apply, val_main_v54_apply,
    val_main_v53_apply, val_main_v52_apply, val_main_v51_apply, val_main_v50_apply, val_main_v49_apply, val_main_v48_apply, val_main_v47_apply, val_main_v46_apply,
    val_main_v45_apply, val_main_v44_apply, val_main_v43_apply, val_main_v42_apply, val_main_v41_apply, val_main_v40_apply, val_main_v39_apply, val_main_v38_apply,
    val_main_v37_apply, val_main_v36_apply, val_main_call2_v0_apply, val_main_call2_v1_apply, val_main_call2_v2_apply, val_main_call2_v3_apply, val_main_call2_v4_apply,
    val_main_c_6_apply, val_main_c_7_apply, val_main_c_8_apply, val_main_c_9_apply, val_main_c_10_apply, val_main_c_11_apply, val_main_c_12_apply]
  exact dist_at r j _ _ _ (show (r.val * 576 + j.val) / 64 % 9 = j.val / 64 by omega) (show (r.val * 576 + j.val) / 576 = r.val by omega)
    (show (r.val * 576 + j.val) % 64 = j.val % 64 by omega)

end Cert.AttRef

end
-- ==== Proof.Att.Ref.lean ====
module

public import proofs.«01_k».proof.Proof.Att.Gather
public import proofs.«01_k».proof.Proof.Att.Score

/-! What the reference of the attention computes, row by row. -/

@[expose] public section

set_option maxRecDepth 16384

noncomputable section

namespace Cert.AttRef

open Idealize.ShloMosaic Idealize.ShloMosaic.TcCoe Idealize.SL.Sem
open Cert.ReferenceIdeal Cert.ReferenceIdeal.Gen Cert.ReferenceIdeal.Read

variable (P : S16x2048x15360.Idx → EReal) (T : S8x513.Idx → EReal)

/-- The query of row `r` of chunk `q`. -/
theorem v4_at (b : Fin 16) (q : Fin 32) (r : Fin 64) (h : Fin 8) (d : Fin 128) :
    (val_main_v4 (F := Ideal) P (ix5 b q r h d) : EReal) = P (ix3 b ⟨64 * q.val + r.val, by omega⟩ ⟨12288 + 128 * h.val + d.val, by omega⟩) := by
  simp only [val_main_v4_apply, val_main_v1_apply, val_main_v0_apply]
  refine congrArg P ?_
  funext a
  match a with
  | ⟨0, _⟩ => apply Fin.ext; show ((((b.val * 32 + q.val) * 64 + r.val) * 8 + h.val) * 128 + d.val) / 2097152 = b.val; omega
  | ⟨1, _⟩ => apply Fin.ext; show ((((b.val * 32 + q.val) * 64 + r.val) * 8 + h.val) * 128 + d.val) / 1024 % 2048 = 64 * q.val + r.val; omega
  | ⟨2, _⟩ => apply Fin.ext; show 12288 + ((((b.val * 32 + q.val) * 64 + r.val) * 8 + h.val) * 128 + d.val) % 1024 = 12288 + 128 * h.val + d.val; omega

/-- The key of row `r` of chunk `q`. -/
theorem v5_at (b : Fin 16) (q : Fin 32) (r : Fin 64) (h : Fin 8) (d : Fin 128) :
    (val_main_v5 (F := Ideal) P (ix5 b q r h d) : EReal) = P (ix3 b ⟨64 * q.val + r.val, by omega⟩ ⟨13312 + 128 * h.val + d.val, by omega⟩) := by
  simp only [val_main_v5_apply, val_main_v2_apply, val_main_v0_apply]
  refine congrArg P ?_
  funext a
  match a with
  | ⟨0, _⟩ => apply Fin.ext; show ((((b.val * 32 + q.val) * 64 + r.val) * 8 + h.val) * 128 + d.val) / 2097152 = b.val; omega
  | ⟨1, _⟩ => apply Fin.ext; show ((((b.val * 32 + q.val) * 64 + r.val) * 8 + h.val) * 128 + d.val) / 1024 % 2048 = 64 * q.val + r.val; omega
  | ⟨2, _⟩ => apply Fin.ext; show 13312 + ((((b.val * 32 + q.val) * 64 + r.val) * 8 + h.val) * 128 + d.val) % 1024 = 13312 + 128 * h.val + d.val; omega

/-- The value of row `r` of chunk `q`. -/
theorem v7_at (b : Fin 16) (q : Fin 32) (r : Fin 64) (h : Fin 8) (d : Fin 128) :
    (val_main_v7 (F := Ideal) P (ix5 b q r h d) : EReal) = P (ix3 b ⟨64 * q.val + r.val, by omega⟩ ⟨14336 + 128 * h.val + d.val, by omega⟩) := by
  simp only [val_main_v7_apply, val_main_v3_apply, val_main_v0_apply]
  refine congrArg P ?_
  funext a
  match a with
  | ⟨0, _⟩ => apply Fin.ext; show ((((b.val * 32 + q.val) * 64 + r.val) * 8 + h.val) * 128 + d.val) / 2097152 = b.val; omega
  | ⟨1, _⟩ => apply Fin.ext; show ((((b.val * 32 + q.val) * 64 + r.val) * 8 + h.val) * 128 + d.val) / 1024 % 2048 = 64 * q.val + r.val; omega
  | ⟨2, _⟩ => apply Fin.ext; show 14336 + ((((b.val * 32 + q.val) * 64 + r.val) * 8 + h.val) * 128 + d.val) % 1024 = 14336 + 128 * h.val + d.val; omega

/-- Behind its first eight chunks the padded array is the array itself. -/
theorem pad_at (x : S16x32x64x8x128.Idx → EReal) (z : S_.Idx → EReal) (b : Fin 16) (ch : Fin 40) (r : Fin 64) (h : Fin 8) (d : Fin 128)
    (hc : 8 ≤ ch.val) :
    pad S16x40x64x8x128 ![0, 8, 0, 0, 0] ![0, 0, 0, 0, 0] ![0, 0, 0, 0, 0] x z pads_S16x32x64x8x128_S16x40x64x8x128_000_800_000_000_000 h_S_ (ix5 b ch r h d)
      = x (ix5 b ⟨ch.val - 8, by omega⟩ r h d) := by
  pointwise
  exact dif_pos ⟨hc, by omega⟩

/-- Nine chunks of 64 rows in one axis. -/
theorem cast_at (X : S16x32x9x64x8x128.Idx → EReal) (b : Fin 16) (q : Fin 32) (j : Fin 576) (h : Fin 8) (d : Fin 128) :
    shapeCast S16x32x576x8x128 X shapeCasts_S16x32x9x64x8x128_S16x32x576x8x128 (ix5 b q j h d)
      = X (ix6 b q ⟨j.val / 64, by omega⟩ ⟨j.val % 64, by omega⟩ h d) := by
  pointwise

/-- The key in band slot `j` of query chunk `q`, where that slot lies in the sequence. -/
theorem v23_at (b : Fin 16) (q : Fin 32) (j : Fin 576) (h : Fin 8) (d : Fin 128) (hc : 8 ≤ q.val + j.val / 64) :
    (val_main_v23 (F := Ideal) P (ix5 b q j h d) : EReal) = P (ix3 b ⟨64 * q.val + j.val - 512, by omega⟩ ⟨13312 + 128 * h.val + d.val, by omega⟩) := by
  unfold val_main_v23
  refine (cast_at _ b q j h d).trans ?_
  unfold val_main_v22
  refine (gather_at _ _ b q _ _ h d ⟨q.val + j.val / 64, by omega⟩ ?_).trans ?_
  · rw [v21_at]; exact toInt_small _ (by simp only []; omega)
  · unfold val_main_v6
    refine (pad_at _ _ b _ _ h d hc).trans ?_
    refine (v5_at P b _ _ h d).trans ?_
    exact congrArg P (congrArg₂ (ix3 b) (Fin.ext (by simp only []; omega)) rfl)

/-- The value in band slot `j` of query chunk `q`, where that slot lies in the sequence. -/
theorem v31_at (b : Fin 16) (q : Fin 32) (j : Fin 576) (h : Fin 8) (d : Fin 128) (hc : 8 ≤ q.val + j.val / 64) :
    (val_main_v31 (F := Ideal) P (ix5 b q j h d) : EReal) = P (ix3 b ⟨64 * q.val + j.val - 512, by omega⟩ ⟨14336 + 128 * h.val + d.val, by omega⟩) := by
  unfold val_main_v31
  refine (cast_at _ b q j h d).trans ?_
  unfold val_main_v30
  refine (gather_at _ _ b q _ _ h d ⟨q.val + j.val / 64, by omega⟩ ?_).trans ?_
  · rw [v29_at]; exact toInt_small _ (by simp only []; omega)
  · unfold val_main_v8
    refine (pad_at _ _ b _ _ h d hc).trans ?_
    refine (v7_at P b _ _ h d).trans ?_
    exact congrArg P (congrArg₂ (ix3 b) (Fin.ext (by simp only []; omega)) rfl)

/-- The bias of row `r` and band slot `j`. -/
theorem v62_at (h : Fin 8) (r : Fin 64) (j : Fin 576) :
    (val_main_v62 (F := Ideal) T (ix3 h r j) : EReal) = T (ix2 h ⟨min (768 + r.val - j.val) 512, by omega⟩) := by
  unfold val_main_v62
  refine tgather_at T _ h r j _ ?_
  rw [v61_at]
  exact toInt_small _ (by omega)

/-- The mask: the band slot lies in the sequence. -/
theorem mask_at (b : Fin 16) (q : Fin 32) (h : Fin 8) (r : Fin 64) (j : Fin 576) :
    val_main_call3_v1 (F := Ideal) (ix5 b q h r j) = if 8 ≤ q.val + j.val / 64 then 1#1 else 0#1 := by
  simp only [val_main_call3_v1_apply, val_main_v69_apply, val_main_v35_apply, val_main_v34_apply, val_main_v33_apply, val_main_v32_apply,
    val_main_v15_apply, val_main_v14_apply, val_main_v13_apply, val_main_v12_apply, val_main_v11_apply, val_main_v10_apply, val_main_v9_apply, val_main_c_5_apply]
  have key : ∀ (q : Fin 32) (s : Fin 9), IntOp.cmpi .sge (IntOp.addi (BitVec.ofNat 32 q.val) (BitVec.ofNat 32 s.val)) 8#32
      = if 8 ≤ q.val + s.val then 1#1 else 0#1 := by decide +kernel
  have e : ∀ x y : ℕ, x = q.val → y = j.val / 64 → IntOp.cmpi .sge (IntOp.addi (BitVec.ofNat 32 x) (BitVec.ofNat 32 y)) 8#32
      = if 8 ≤ q.val + j.val / 64 then 1#1 else 0#1 := by
    intro x y hx hy
    subst hx hy
    exact key q ⟨j.val / 64, by omega⟩
  exact e _ _ (show (q.val * 576 + j.val) / 576 = q.val by omega) (show (q.val * 576 + j.val) / 64 % 9 = j.val / 64 by omega)

/-- The masked score of row `r` of chunk `q` and band slot `j`. -/
theorem v70_at (b : Fin 16) (q : Fin 32) (h : Fin 8) (r : Fin 64) (j : Fin 576) :
    (val_main_v70 (F := Ideal) P T (ix5 b q h r j) : EReal)
      = Att.score P T b h ⟨64 * q.val + r.val, by omega⟩ ⟨64 * q.val + j.val, by omega⟩ := by
  have hv : Att.visible (64 * q.val + r.val) (64 * q.val + j.val) ↔ 8 ≤ q.val + j.val / 64 := by unfold Att.visible; omega
  rw [val_main_v70_apply, mask_at]
  unfold Att.score
  simp only [hv]
  by_cases hc : 8 ≤ q.val + j.val / 64
  · rw [if_pos hc, if_pos hc]
    simp only [val_main_v68_apply, val_main_v67_apply, val_main_v66_apply, val_main_v65_apply, val_main_v64_apply, val_main_v63_apply, val_main_cst_apply]
    refine congrArg₂ (fun x y : EReal => x * Att.scale + y) (Finset.sum_congr rfl fun d _ => congrArg₂ (fun x y : EReal => x * y) ?_ ?_) ?_
    · refine Eq.trans (congrArg _ ?_) (v4_at P b q r h d)
      funext a; match a with | ⟨0, _⟩ => rfl | ⟨1, _⟩ => rfl | ⟨2, _⟩ => rfl | ⟨3, _⟩ => rfl | ⟨4, _⟩ => rfl
    · refine Eq.trans (congrArg _ ?_) (v23_at P b q j h d hc)
      funext a; match a with | ⟨0, _⟩ => rfl | ⟨1, _⟩ => rfl | ⟨2, _⟩ => rfl | ⟨3, _⟩ => rfl | ⟨4, _⟩ => rfl
    · refine Eq.trans (congrArg _ ?_) ((v62_at T h r j).trans (congrArg T (congrArg (ix2 h) (Fin.ext (by simp only []; omega)))))
      funext a; match a with | ⟨0, _⟩ => rfl | ⟨1, _⟩ => rfl | ⟨2, _⟩ => rfl
  · rw [if_neg hc, if_neg hc]
    simp only [val_main_call3_v2_apply, val_main_call3_v0_apply, val_main_cst_13_apply]
    show Ideal.ofBits .f32 0xFF800000#32 = ⊥
    simp [Ideal.ofBits, Ideal.ieee]

/-- The greatest score of a row. -/
theorem v71_at (b : Fin 16) (q : Fin 32) (h : Fin 8) (r : Fin 64) :
    (val_main_v71 (F := Ideal) P T (ix4 b q h r) : EReal)
      = Att.rowMax fun j : Fin 576 => (val_main_v70 (F := Ideal) P T (ix5 b q h r j) : EReal) := by
  unfold val_main_v71
  pointwise
  have hz : (val_main_cst_14 (F := Ideal) (Shape.Idx.first h_S_) : EReal) = ⊥ := by
    rw [val_main_cst_14_apply]
    show Ideal.ofBits .f32 0xFF800000#32 = ⊥
    simp [Ideal.ofBits, Ideal.ieee]
  exact congrArg (fun z : EReal => Finset.univ.fold max z fun j : Fin 576 => (val_main_v70 (F := Ideal) P T (ix5 b q h r j) : EReal)) hz

theorem exp_sub_eq (a b : EReal) : (FloatOps.hostUnary .exp (FloatOps.subf (F := Ideal) (φ := .f32) a b) : Ideal .f32) = Ideal.exp (a - b) := rfl

theorem div_congr (a a' b c : EReal) (g : a = a') (h : b = c) :
    (FloatOps.hostDivf (F := Ideal) (φ := .f32) a b : EReal) = Ideal.div a' c := g ▸ h ▸ rfl

theorem max_bits (a : EReal) : (FloatOps.maximumf (F := Ideal) (φ := .f32) (Ideal.ofBits .f32 0xFF800000#32) a : EReal) = a := by
  have hz : Ideal.ofBits .f32 0xFF800000#32 = ⊥ := by simp [Ideal.ofBits, Ideal.ieee]
  show max (Ideal.ofBits .f32 0xFF800000#32) a = a
  rw [hz, max_eq_right bot_le]

/-- The greatest score, once more compared with ⊥. -/
theorem v73_at (b : Fin 16) (q : Fin 32) (h : Fin 8) (r : Fin 64) :
    (val_main_v73 (F := Ideal) P T (ix4 b q h r) : EReal)
      = Att.rowMax fun j : Fin 576 => (val_main_v70 (F := Ideal) P T (ix5 b q h r j) : EReal) := by
  rw [val_main_v73_apply, val_main_v72_apply, val_main_cst_15_apply]
  exact (max_bits _).trans (v71_at P T b q h r)

theorem v75_at (b : Fin 16) (q : Fin 32) (h : Fin 8) (r : Fin 64) (j : Fin 576) :
    (val_main_v75 (F := Ideal) P T (ix5 b q h r j) : EReal)
      = Att.rowMax fun j : Fin 576 => (val_main_v70 (F := Ideal) P T (ix5 b q h r j) : EReal) := by
  rw [val_main_v75_apply, val_main_v74_apply]
  have hx : idx_main_v74 (idx_main_v75 (ix5 b q h r j)) = ix4 b q h r := by
    funext a; match a with | ⟨0, _⟩ => rfl | ⟨1, _⟩ => rfl | ⟨2, _⟩ => rfl | ⟨3, _⟩ => rfl
  rw [hx]
  exact v73_at P T b q h r

/-- The weight of a band slot. -/
theorem v77_at (b : Fin 16) (q : Fin 32) (h : Fin 8) (r : Fin 64) (j : Fin 576) :
    (val_main_v77 (F := Ideal) P T (ix5 b q h r j) : EReal)
      = Ideal.exp ((val_main_v70 (F := Ideal) P T (ix5 b q h r j) : EReal) - Att.rowMax fun j : Fin 576 => (val_main_v70 (F := Ideal) P T (ix5 b q h r j) : EReal)) := by
  rw [val_main_v77_apply, val_main_v76_apply]
  exact (exp_sub_eq _ _).trans (congrArg (fun z : EReal => Ideal.exp ((val_main_v70 (F := Ideal) P T (ix5 b q h r j) : EReal) - z)) (v75_at P T b q h r j))

/-- The sum of a row's weights. -/
theorem v78_at (b : Fin 16) (q : Fin 32) (h : Fin 8) (r : Fin 64) :
    (val_main_v78 (F := Ideal) P T (ix4 b q h r) : EReal) = ∑ j : Fin 576, (val_main_v77 (F := Ideal) P T (ix5 b q h r j) : EReal) := by
  have hz : (val_main_cst_16 (F := Ideal) (Shape.Idx.first h_S_) : EReal) = 0 := by
    rw [val_main_cst_16_apply]
    show (Ideal.ofBits .f32 0x00000000#32 : EReal) = 0
    simp [Ideal.ofBits, Ideal.ieee]
  have hx : ∀ x : Fin 576, idx_main_v78 (ix4 b q h r) x = ix5 b q h r x := fun x => by
    funext a; match a with | ⟨0, _⟩ => rfl | ⟨1, _⟩ => rfl | ⟨2, _⟩ => rfl | ⟨3, _⟩ => rfl | ⟨4, _⟩ => rfl
  rw [val_main_v78_apply]
  simp only [hx]
  exact (congrArg (fun z : EReal => z + ∑ j : Fin 576, (val_main_v77 (F := Ideal) P T (ix5 b q h r j) : EReal)) hz).trans (zero_add _)

/-- The reference's result: softmax rows over the nine chunks of the band. -/
theorem v85_at (b : Fin 16) (t : Fin 2048) (k : Fin 1024) :
    (val_main_v85 (F := Ideal) P T (ix3 b t k) : EReal)
      = Att.rowSoft (fun j : Fin 576 => Att.score P T b ⟨k.val / 128, by omega⟩ t ⟨64 * (t.val / 64) + j.val, by omega⟩)
          (fun j : Fin 576 => (val_main_v31 (F := Ideal) P (ix5 b ⟨t.val / 64, by omega⟩ j ⟨k.val / 128, by omega⟩ ⟨k.val % 128, by omega⟩) : EReal)) := by
  simp only [val_main_v85_apply, val_main_v84_apply, val_main_v83_apply, val_main_v82_apply]
  unfold Att.rowSoft
  have hb := b.isLt; have ht := t.isLt; have hk := k.isLt
  have hs : ∀ j : Fin 576, (val_main_v70 (F := Ideal) P T (ix5 b ⟨t.val / 64, by omega⟩ ⟨k.val / 128, by omega⟩ ⟨t.val % 64, by omega⟩ j) : EReal)
      = Att.score P T b ⟨k.val / 128, by omega⟩ t ⟨64 * (t.val / 64) + j.val, by omega⟩ := fun j =>
    (v70_at P T b _ _ _ j).trans (congrArg (fun u => Att.score P T b _ u _) (Fin.ext (show 64 * (t.val / 64) + t.val % 64 = t.val by omega)))
  simp only [← hs]
  have e0 : ((b.val * 2048 + t.val) * 1024 + k.val) / 2097152 = b.val := by omega
  have e1 : ((b.val * 2048 + t.val) * 1024 + k.val) / 65536 % 32 = t.val / 64 := by omega
  have e2 : ((b.val * 2048 + t.val) * 1024 + k.val) / 1024 % 64 = t.val % 64 := by omega
  have e3 : ((b.val * 2048 + t.val) * 1024 + k.val) / 128 % 8 = k.val / 128 := by omega
  have e4 : ((b.val * 2048 + t.val) * 1024 + k.val) % 128 = k.val % 128 := by omega
  refine Finset.sum_congr rfl fun j _ => congrArg₂ (fun x y : EReal => x * y) (congrArg _ ?_) ?_
  · funext a
    match a with
    | ⟨0, _⟩ => exact Fin.ext e0
    | ⟨1, _⟩ => exact Fin.ext e1
    | ⟨2, _⟩ => rfl
    | ⟨3, _⟩ => exact Fin.ext e3
    | ⟨4, _⟩ => exact Fin.ext e4
  · have hx : ridx_main_v82 (idx_main_v83 (idx_main_v84 (ix3 b t k))) j
        = ix5 b ⟨t.val / 64, by omega⟩ ⟨k.val / 128, by omega⟩ ⟨t.val % 64, by omega⟩ j := by
      funext a
      match a with
      | ⟨0, _⟩ => exact Fin.ext e0
      | ⟨1, _⟩ => exact Fin.ext e1
      | ⟨2, _⟩ => exact Fin.ext e3
      | ⟨3, _⟩ => exact Fin.ext e2
      | ⟨4, _⟩ => rfl
    have hy : idx_main_v79 (idx_main_v80 (ix5 b ⟨t.val / 64, by omega⟩ ⟨k.val / 128, by omega⟩ ⟨t.val % 64, by omega⟩ j))
        = ix4 b ⟨t.val / 64, by omega⟩ ⟨k.val / 128, by omega⟩ ⟨t.val % 64, by omega⟩ := by
      funext a; match a with | ⟨0, _⟩ => rfl | ⟨1, _⟩ => rfl | ⟨2, _⟩ => rfl | ⟨3, _⟩ => rfl
    rw [hx, val_main_v81_apply, val_main_v80_apply, val_main_v79_apply, hy]
    exact div_congr _ _ _ _ (v77_at P T b ⟨t.val / 64, by omega⟩ ⟨k.val / 128, by omega⟩ ⟨t.val % 64, by omega⟩ j)
      ((v78_at P T b ⟨t.val / 64, by omega⟩ ⟨k.val / 128, by omega⟩ ⟨t.val % 64, by omega⟩).trans
        (Finset.sum_congr rfl fun x _ => v77_at P T b ⟨t.val / 64, by omega⟩ ⟨k.val / 128, by omega⟩ ⟨t.val % 64, by omega⟩ x))

end Cert.AttRef

end
-- ==== Proof.Att.Equation.lean ====
/- The kernel's attention and the reference's agree where queries, keys and the bias table are finite. -/
module

public import proofs.«01_k».proof.Proof.Att.Ref

@[expose] public section

set_option maxRecDepth 16384

noncomputable section

namespace Cert.Att

open Idealize.ShloMosaic Idealize.ShloMosaic.TcCoe Idealize.SL.Sem
open Cert.KernelIdeal Cert.KernelIdeal.Gen

/-- A sum of real numbers is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Of finite numbers the score is never ⊤, and ⊥ only where the key is not visible. -/
theorem score_finite (P : S16x2048x15360.Idx → EReal) (T : S8x513.Idx → EReal) (b : Fin 16) (h : Fin 8) (t : Fin 2048) (p : Fin 2560)
    (hP : ∀ (s : Fin 2048) (k : Fin 15360), 12288 ≤ k.val → k.val < 14336 → P (ix3 b s k) ≠ ⊤ ∧ P (ix3 b s k) ≠ ⊥)
    (hT : ∀ (x : Fin 513), T (ix2 h x) ≠ ⊤ ∧ T (ix2 h x) ≠ ⊥) :
    score P T b h t p ≠ ⊤ ∧ (visible t.val p.val → score P T b h t p ≠ ⊥) := by
  unfold score
  by_cases hv : visible t.val p.val
  · rw [if_pos hv]
    obtain ⟨r, -, hs⟩ := scale_pos
    have hq : ∀ (s : Fin 2048) (k : Fin 15360), 12288 ≤ k.val → k.val < 14336 → ((P (ix3 b s k)).toReal : EReal) = P (ix3 b s k) :=
      fun s k h1 h2 => EReal.coe_toReal (hP s k h1 h2).1 (hP s k h1 h2).2
    have hx : ∀ x : Fin 513, ((T (ix2 h x)).toReal : EReal) = T (ix2 h x) := fun x => EReal.coe_toReal (hT x).1 (hT x).2
    have key : ∃ y : ℝ, (∑ d : Fin 128, P (ix3 b t ⟨12288 + 128 * h.val + d.val, by omega⟩)
        * P (ix3 b ⟨p.val - 512, by omega⟩ ⟨13312 + 128 * h.val + d.val, by omega⟩))
        * scale + T (ix2 h ⟨min (768 + t.val - p.val) 512, by omega⟩) = (y : EReal) := by
      refine ⟨(∑ d : Fin 128, (P (ix3 b t ⟨12288 + 128 * h.val + d.val, by omega⟩)).toReal
        * (P (ix3 b ⟨p.val - 512, by omega⟩ ⟨13312 + 128 * h.val + d.val, by omega⟩)).toReal)
        * r + (T (ix2 h ⟨min (768 + t.val - p.val) 512, by omega⟩)).toReal, ?_⟩
      rw [EReal.coe_add, EReal.coe_mul, hx, hs]
      congr 2
      rw [coe_sum]
      refine Finset.sum_congr rfl fun d _ => ?_
      rw [EReal.coe_mul, hq _ _ (by simp only []; omega) (by simp only []; omega), hq _ _ (by simp only []; omega) (by simp only []; omega)]
    obtain ⟨y, hy⟩ := key
    rw [hy]
    exact ⟨EReal.coe_ne_top _, fun _ => EReal.coe_ne_bot _⟩
  · rw [if_neg hv]
    exact ⟨bot_ne_top, fun h => absurd h hv⟩

/-- The kernel's attention is the reference's softmax. -/
theorem attn_eq (P : S16x2048x15360.Idx → EReal) (T : S8x513.Idx → EReal)
    (hP : ∀ (b : Fin 16) (s : Fin 2048) (k : Fin 15360), 12288 ≤ k.val → k.val < 14336 → P (ix3 b s k) ≠ ⊤ ∧ P (ix3 b s k) ≠ ⊥)
    (hT : ∀ (h : Fin 8) (x : Fin 513), T (ix2 h x) ≠ ⊤ ∧ T (ix2 h x) ≠ ⊥) (b : Fin 16) (t : Fin 2048) (k : Fin 1024) :
    attn P T b t k = Cert.ReferenceIdeal.Read.val_main_v85 (F := Ideal) P T (ix3 b t k) := by
  refine Eq.trans ?_ (AttRef.v85_at P T b t k).symm
  have hl := log2e_pos
  have hk := k.isLt
  have ht := t.isLt
  rw [← rowQuot_log2e _ _ (fun j => (score_finite P T b _ t _ (hP b) (hT _)).1)
    ⟨⟨512 + t.val % 64, by omega⟩, (score_finite P T b _ t _ (hP b) (hT _)).2 (by unfold visible; simp only []; omega)⟩]
  unfold attn
  refine (rowQuot_reindex (fun j : Fin 576 => (⟨64 * (t.val / 64) + j.val, by omega⟩ : Fin 2560)) ?_ _ _ _ _ (fun j => rfl) ?_ ?_).symm
  · intro x y hxy
    have := congrArg Fin.val hxy
    simp only [] at this
    exact Fin.ext (by omega)
  · intro j hj
    have hv : visible t.val (64 * (t.val / 64) + j.val) := by
      by_contra hv
      apply hj
      unfold score
      rw [if_neg hv]
      exact EReal.coe_mul_bot_of_pos hl
    unfold visible at hv
    refine (AttRef.v31_at P b _ j _ _ (by simp only []; omega)).trans ?_
    unfold value
    exact congrArg P (congrArg₂ (ix3 b) rfl (Fin.ext (by simp only []; omega)))
  · intro p hp
    have hv : ¬ visible t.val p.val := by
      intro hv
      unfold visible at hv
      exact hp ⟨⟨p.val - 64 * (t.val / 64), by omega⟩, Fin.ext (by simp only []; omega)⟩
    unfold score
    rw [if_neg hv]
    exact EReal.coe_mul_bot_of_pos hl

/-- A number whose absolute value compares less than infinity is finite. -/
theorem finite_of_word (x : EReal)
    (h : (FloatOps.cmpf (F := Ideal) (φ := .f32) .olt (FloatOps.hostAbsf (F := Ideal) (φ := .f32) x) (Ideal.ofBits .f32 0x7F800000#32)) = 1#1) :
    x ≠ ⊤ ∧ x ≠ ⊥ := by
  have hz : Ideal.ofBits .f32 0x7F800000#32 = ⊤ := by simp [Ideal.ofBits, Ideal.ieee]
  change Ideal.cmp .olt (max x (-x)) (Ideal.ofBits .f32 0x7F800000#32) = 1#1 at h
  rw [hz] at h
  constructor
  · rintro rfl
    simp [Ideal.cmp] at h
  · rintro rfl
    simp [Ideal.cmp] at h

end Cert.Att

end
-- ==== Proof.Att.Algebraic.lean ====
/- The attention: the kernel's program and the reference's end with equal results where queries, keys and the bias table
   are finite. -/
module

public import proofs.«01_k».proof.Defs
public import proofs.«01_k».proof.Proof.Att.Array
public import proofs.«01_k».proof.Proof.Att.Equation
public import proofs.«01_k».proof.Proof.Gen.KernelIdeal.Value
public import Idealize.ShloMosaic.Lib.Claim

@[expose] public section

set_option maxRecDepth 16384

noncomputable section

namespace Cert.Att

open Idealize.ShloMosaic Idealize.ShloMosaic.TcCoe Idealize.SL.Sem

/-- The facts of the precondition's function. -/
theorem preFacts : Cert.Pre_finite_scores.Facts := by
  constructor <;> decide

/-- The precondition, entry by entry. -/
theorem finite_of_pre (h : Cert.Pre_finite_scores.Facts) (P : Cert.KernelIdeal.S16x2048x15360.Idx → EReal) (T : Cert.KernelIdeal.S8x513.Idx → EReal)
    (h1 : (Cert.Pre_finite_scores.fn (F := Ideal) P T).1 = fun _ => 1#1) (h2 : (Cert.Pre_finite_scores.fn (F := Ideal) P T).2 = fun _ => 1#1) :
    (∀ (b : Fin 16) (s : Fin 2048) (k : Fin 15360), 12288 ≤ k.val → k.val < 14336 → P (ix3 b s k) ≠ ⊤ ∧ P (ix3 b s k) ≠ ⊥)
      ∧ ∀ (h : Fin 8) (x : Fin 513), T (ix2 h x) ≠ ⊤ ∧ T (ix2 h x) ≠ ⊥ := by
  constructor
  · intro b s k hk hk'
    have e := congrFun h1 (ix3 b s ⟨k.val - 12288, by omega⟩)
    refine finite_of_word _ ?_
    rw [← e]
    refine congrArg (fun z : EReal => FloatOps.cmpf (F := Ideal) (φ := .f32) .olt (FloatOps.hostAbsf (F := Ideal) (φ := .f32) z) (Ideal.ofBits .f32 0x7F800000#32)) ?_
    refine congrArg P ?_
    funext a
    match a with
    | ⟨0, _⟩ => exact Fin.ext (Nat.zero_add _).symm
    | ⟨1, _⟩ => exact Fin.ext (Nat.zero_add _).symm
    | ⟨2, _⟩ => exact Fin.ext (show k.val = 12288 + (k.val - 12288) by omega)
  · intro h x
    exact finite_of_word _ (congrFun h2 (ix2 h x))

variable (m : (ℓ : Loc Cert.KernelIdeal.nD Cert.KernelIdeal.τ Cert.KernelIdeal.sig) → Buf (Elt Ideal) ℓ)

theorem algebraic (h : Cert.Pre_finite_scores.Facts) :
    Cert.algebraic_KernelIdeal_ReferenceIdeal_pre_finite_scores (hKernelIdeal := Cert.KernelIdeal.Gen.facts)
      (hReferenceIdeal := Cert.ReferenceIdeal.Gen.facts) (hPre_finite_scores := h) := by
  pair_intro
  · run_from Cert.KernelIdeal.Value.run_blocks m g
  · run_from Cert.ReferenceIdeal.Value.run m' g'
    obtain ⟨hP, hT⟩ := finite_of_pre h (proj m c) (rel m c) (hpre c).1 (hpre c).2
    rw [Cert.ReferenceIdeal.Read.val_main_v85_eq, (hagree c).1, (hagree c).2, final m c]
    funext i
    refine Eq.trans ?_ (attn_eq (proj m c) (rel m c) hP hT (i 0) (i 1) (i 2)).symm
    refine congrArg (Cert.ReferenceIdeal.Read.val_main_v85 (F := Ideal) (proj m c) (rel m c)) ?_
    funext a
    match a with
    | ⟨0, _⟩ => rfl
    | ⟨1, _⟩ => rfl
    | ⟨2, _⟩ => rfl

end Cert.Att

end
-- ==== Proof.Ffn.Block.lean ====
/- The feed-forward: what one grid point computes. -/
module

public import proofs.«01_k».proof.Proof.Gen.Kernel2Ideal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Ffn

open Idealize.ShloMosaic Idealize.ShloMosaic.TcCoe Idealize.SL.Sem
open Cert.Kernel2Ideal Cert.Kernel2Ideal.Gen

/-- The squared rectifier. -/
def sqRelu (x : EReal) : EReal := max x 0 * max x 0

/-- One tile of hidden columns' part of an output element. -/
def part (x0 : S1024x2048.Idx → EReal) (x1 : S1x2048x1024.Idx → EReal) (x2 : S1x1024x2048.Idx → EReal) (a : Fin 1024) (n : Fin 2048) : EReal :=
  ∑ k : Fin 1024, sqRelu (∑ d : Fin 2048, x0 (ix2 a d) * x1 (ix3 0 d k)) * x2 (ix3 0 k n)

theorem zero_bits : (Ideal.ofBits .f32 0x00000000#32 : EReal) = 0 := by simp [Ideal.ofBits, Ideal.ieee]

theorem pay1_at (x0 : Vec Ideal S1024x2048 .bf16) (x1 : Vec Ideal S1x2048x1024 .bf16) (x2 : Vec Ideal S1x1024x2048 .bf16) (a : Fin 1024) (n : Fin 2048) :
    (k0_pay1 (F := Ideal) x0 x1 x2 (ix2 a n) : EReal) = part x0 x1 x2 a n := by
  unfold part sqRelu
  pointwise [k0_pay1]

theorem pay2_at (acc : Vec Ideal S1024x2048 .f32) (x0 : Vec Ideal S1024x2048 .bf16) (x1 : Vec Ideal S1x2048x1024 .bf16) (x2 : Vec Ideal S1x1024x2048 .bf16)
    (a : Fin 1024) (n : Fin 2048) :
    (k0_pay2 (F := Ideal) acc x0 x1 x2 (ix2 a n) : EReal) = acc (ix2 a n) + part x0 x1 x2 a n := by
  unfold part sqRelu
  pointwise [k0_pay2]

theorem pay3_at (acc : Vec Ideal S1024x2048 .f32) (x0 : Vec Ideal S1024x2048 .bf16) (x1 : Vec Ideal S1x2048x1024 .bf16) (x2 : Vec Ideal S1x1024x2048 .bf16)
    (a : Fin 1024) (n : Fin 2048) :
    (k0_pay3 (F := Ideal) acc x0 x1 x2 (ix2 a n) : EReal) = acc (ix2 a n) + part x0 x1 x2 a n := by
  unfold part sqRelu
  pointwise [k0_pay3]

variable (m : (ℓ : Loc nD τ sig) → Buf (Elt Ideal) ℓ) (c : Dev nD)

/-- The first tile of hidden columns starts the sum. -/
theorem scr_A (t : Fin cfg0.N) (h0 : t.val % 8 = 0) :
    (outsAt0 m c t.val t.isLt).2 = k0_pay1 (iblk m c 0 t) (iblk m c 1 t) (iblk m c 2 t) := by
  rw [outsAt0_A m c t h0 (by omega) (by omega)]
  frame_out

/-- The tiles between add to it. -/
theorem scr_B (t : Fin cfg0.N) (h1 : 1 ≤ t.val % 8 ∧ t.val % 8 ≤ 6) :
    (outsAt0 m c t.val t.isLt).2
      = k0_pay2 (outsAt0 m c (t.val - 1) (Nat.lt_of_le_of_lt (Nat.sub_le _ _) t.isLt)).2 (iblk m c 0 t) (iblk m c 1 t) (iblk m c 2 t) := by
  rw [outsAt0_B m c t (by omega) h1 (by omega)]
  frame_out
  rw [read_unread_whole]

/-- The last tile ends it, in the output. -/
theorem out_C (t : Fin cfg0.N) (h2 : t.val % 8 = 7) :
    (outsAt0 m c t.val t.isLt).1
      = k0_pay3 (outsAt0 m c (t.val - 1) (Nat.lt_of_le_of_lt (Nat.sub_le _ _) t.isLt)).2 (iblk m c 0 t) (iblk m c 1 t) (iblk m c 2 t) := by
  rw [outsAt0_C m c t (by omega) (by omega) h2]
  frame_out
  rw [read_unread_whole]

end Cert.Ffn

end
-- ==== Proof.Ffn.Array.lean ====
/- The feed-forward: the array after the run. -/
module

public import proofs.«01_k».proof.Proof.Ffn.Block

@[expose] public section

set_option maxRecDepth 16384

noncomputable section

namespace Cert.Ffn

open Idealize.ShloMosaic Idealize.ShloMosaic.TcCoe Idealize.SL.Sem
open Cert.Kernel2Ideal Cert.Kernel2Ideal.Gen

theorem idx : ∀ t : Fin cfg0.N, win0_0.index t = ![t.val / 8, 0] ∧ win0_1.index t = ![0, 0, t.val % 8]
    ∧ win0_2.index t = ![0, t.val % 8, 0] ∧ win0_3.index t = ![t.val / 8, 0] := (by decide +kernel : ∀ t : Fin grid0.N, _)

/-- An element of the feed-forward. -/
def ffn (X : S32768x2048.Idx → EReal) (W1 : S2x2048x8192.Idx → EReal) (W2 : S2x8192x2048.Idx → EReal) (r : Fin 32768) (n : Fin 2048) : EReal :=
  ∑ f : Fin 8192, sqRelu (∑ d : Fin 2048, X (ix2 r d) * W1 (ix3 0 d f)) * W2 (ix3 0 f n)

/-- One tile's part of it. -/
def tile (X : S32768x2048.Idx → EReal) (W1 : S2x2048x8192.Idx → EReal) (W2 : S2x8192x2048.Idx → EReal) (r : Fin 32768) (n : Fin 2048) (j : Fin 8) : EReal :=
  ∑ k : Fin 1024, sqRelu (∑ d : Fin 2048, X (ix2 r d) * W1 (ix3 0 d ⟨j.val * 1024 + k.val, by omega⟩)) * W2 (ix3 0 ⟨j.val * 1024 + k.val, by omega⟩ n)

variable (m : (ℓ : Loc nD τ sig) → Buf (Elt Ideal) ℓ) (c : Dev nD)

abbrev hn : S32768x2048.Idx → EReal := m ((c.tc : Thread nD τ).loc main_arg0)
abbrev w1 : S2x2048x8192.Idx → EReal := m ((c.tc : Thread nD τ).loc main_arg1)
abbrev w2 : S2x8192x2048.Idx → EReal := m ((c.tc : Thread nD τ).loc main_arg2)

theorem v0_eq (i : S2x2048x8192.Idx) : (V m c main_v0 : S2x2048x8192.Idx → EReal) i = w1 m c i := by
  entry_read
  rfl

theorem v1_eq (i : S2x8192x2048.Idx) : (V m c main_v1 : S2x8192x2048.Idx → EReal) i = w2 m c i := by
  entry_read
  rfl

theorem part_eq (t : Fin cfg0.N) (a : Fin 1024) (n : Fin 2048) (r : Fin 32768) (hr : r.val = 1024 * (t.val / 8) + a.val) :
    part (iblk m c 0 t) (iblk m c 1 t) (iblk m c 2 t) a n = tile (hn m c) (w1 m c) (w2 m c) r n ⟨t.val % 8, by omega⟩ := by
  unfold part tile
  have ht : t.val < 256 := lt_of_lt_of_eq t.isLt N_0
  refine Finset.sum_congr rfl fun k _ => congrArg₂ (fun x y : EReal => sqRelu x * y) (Finset.sum_congr rfl fun d _ => congrArg₂ (fun x y : EReal => x * y) ?_ ?_) ?_
  · blk_point [iblk, idx t]
  · refine Eq.trans ?_ (v0_eq m c (ix3 0 d ⟨t.val % 8 * 1024 + k.val, by omega⟩))
    blk_point [iblk, idx t]
  · refine Eq.trans ?_ (v1_eq m c (ix3 0 ⟨t.val % 8 * 1024 + k.val, by omega⟩ n))
    blk_point [iblk, idx t]

/-- What the scratch holds after the tile `j` of the row block `i`: the parts of the tiles so far. -/
theorem scr_eq (i : ℕ) (hi : i < 32) (a : Fin 1024) (n : Fin 2048) (r : Fin 32768) (hr : r.val = 1024 * i + a.val) :
    ∀ (j : ℕ) (hj : j ≤ 6) (ht : 8 * i + j < cfg0.N),
      ((outsAt0 m c (8 * i + j) ht).2 (ix2 a n) : EReal) = ∑ s : Fin (j + 1), tile (hn m c) (w1 m c) (w2 m c) r n ⟨s.val, by omega⟩
  | 0, hj, ht => by
    rw [scr_A m c ⟨8 * i + 0, ht⟩ (by simp only []; omega)]
    refine (pay1_at _ _ _ a n).trans ((part_eq m c ⟨8 * i + 0, ht⟩ a n r (by simp only []; omega)).trans ?_)
    rw [Fin.sum_univ_castSucc, Fin.sum_univ_zero, zero_add]
    exact congrArg (tile _ _ _ r n) (Fin.ext (by simp only []; show (8 * i + 0) % 8 = 0; omega))
  | j + 1, hj, ht => by
    rw [scr_B m c ⟨8 * i + (j + 1), ht⟩ (by simp only []; omega)]
    refine (pay2_at _ _ _ _ a n).trans ?_
    rw [part_eq m c ⟨8 * i + (j + 1), ht⟩ a n r (by simp only []; omega), Fin.sum_univ_castSucc]
    refine congrArg₂ (fun x y : EReal => x + y) (scr_eq i hi a n r hr j (by omega) (by omega)) (congrArg (tile _ _ _ r n) (Fin.ext ?_))
    show (8 * i + (j + 1)) % 8 = j + 1
    omega

/-- The eight tiles together are the whole element. -/
theorem ffn_tiles (X : S32768x2048.Idx → EReal) (W1 : S2x2048x8192.Idx → EReal) (W2 : S2x8192x2048.Idx → EReal) (r : Fin 32768) (n : Fin 2048) :
    ∑ j : Fin 8, tile X W1 W2 r n j = ffn X W1 W2 r n := by
  unfold tile ffn
  exact (Fin.sum_univ_tiles 8 1024 rfl fun f : Fin 8192 => sqRelu (∑ d : Fin 2048, X (ix2 r d) * W1 (ix3 0 d f)) * W2 (ix3 0 f n)).symm

theorem outsAt_congr (n n' : ℕ) (hn : n < cfg0.N) (hn' : n' < cfg0.N) (h : n = n') : outsAt0 m c n hn = outsAt0 m c n' hn' := by
  subst h
  rfl

/-- What the output's block holds after the last tile of a row block. -/
theorem out_at (t : Fin cfg0.N) (h7 : t.val % 8 = 7) (a : Fin 1024) (n : Fin 2048) (r : Fin 32768) (hr : r.val = 1024 * (t.val / 8) + a.val) :
    ((outsAt0 m c t.val t.isLt).1 (ix2 a n) : EReal) = ffn (hn m c) (w1 m c) (w2 m c) r n := by
  have ht : t.val < 256 := lt_of_lt_of_eq t.isLt N_0
  have hlt : 8 * (t.val / 8) + 6 < cfg0.N := by have := t.isLt; omega
  rw [out_C m c t h7]
  refine (pay3_at _ _ _ _ a n).trans ?_
  rw [part_eq m c t a n r hr]
  refine Eq.trans ?_ (ffn_tiles (hn m c) (w1 m c) (w2 m c) r n)
  rw [Fin.sum_univ_castSucc]
  refine congrArg₂ (fun x y : EReal => x + y) ?_ (congrArg (tile _ _ _ _ _) (Fin.ext h7))
  rw [outsAt_congr m c (t.val - 1) (8 * (t.val / 8) + 6) _ hlt (by omega)]
  exact scr_eq m c (t.val / 8) (by omega) a n r hr 6 le_rfl hlt

/-- The array after the run. -/
theorem final : (dats m 0 c).arrAt 3 cfg0.N
    = fun i : S32768x2048.Idx => ffn (hn m c) (w1 m c) (w2 m c) (i 0) (i 1) := by
  refine (dats m 0 c).arrAt_eq_of_covers 3 _ (by decide +kernel) fun t hf y => ?_
  have ht : t.val < 256 := lt_of_lt_of_eq t.isLt N_0
  have h7 : t.val % 8 = 7 := (flush0_3 t).mp hf
  blk_simp
  have hy0 : (y 0).val < 1024 := (y 0).isLt
  have hy1 : (y 1).val < 2048 := (y 1).isLt
  have e0 : (⟨1024 * (t.val / 8) + (y 0).val, by omega⟩ : Fin 32768) = (win0_3.blk t).view.emb y 0 :=
    Fin.ext (by blk_simp [idx t]; show 1024 * (t.val / 8) + (y 0).val = _; omega)
  have e1 : (y 1 : Fin 2048) = (win0_3.blk t).view.emb y 1 := Fin.ext (by blk_simp [idx t]; try omega)
  rw [after0_3, ← e0, ← e1]
  have hyy : y = ix2 (y 0) (y 1) := by funext a; match a with | ⟨0, _⟩ => rfl | ⟨1, _⟩ => rfl
  exact Eq.trans (congrArg _ hyy) (out_at m c t h7 (y 0) (y 1) ⟨1024 * (t.val / 8) + (y 0).val, by omega⟩ rfl)

end Cert.Ffn

end
-- ==== Proof.Ffn.Algebraic.lean ====
/- The feed-forward: the kernel's program and the reference's end with equal results. -/
module

public import proofs.«01_k».proof.Defs
public import proofs.«01_k».proof.Proof.Ffn.Array
public import proofs.«01_k».proof.Proof.Gen.Reference2Ideal.Read
public import Idealize.ShloMosaic.Lib.Claim

@[expose] public section

set_option maxRecDepth 16384

noncomputable section

namespace Cert.Ffn

open Idealize.ShloMosaic Idealize.ShloMosaic.TcCoe Idealize.SL.Sem

open Cert.Reference2Ideal Cert.Reference2Ideal.Gen Cert.Reference2Ideal.Read in
/-- The reference's result, element by element. -/
theorem ref_at (X : Cert.Kernel2Ideal.S32768x2048.Idx → EReal) (W1 : Cert.Kernel2Ideal.S2x2048x8192.Idx → EReal) (W2 : Cert.Kernel2Ideal.S2x8192x2048.Idx → EReal)
    (r : Fin 32768) (n : Fin 2048) :
    (val_main_v9 (F := Ideal) X W1 W2 (ix2 r n) : EReal) = ffn X W1 W2 r n := by
  unfold ffn sqRelu
  pointwise [val_main_v9, val_main_v8, val_main_v7, val_main_v6, val_main_v5, val_main_v4, val_main_call0_v0, val_main_call0_cst, val_main_v3, val_main_v2, val_main_v1, val_main_v0]

/-- The feed-forward kernel's result is the reference's. -/
theorem algebraic : Cert.algebraic_Kernel2Ideal_Reference2Ideal (hKernel2Ideal := Cert.Kernel2Ideal.Gen.facts)
      (hReference2Ideal := Cert.Reference2Ideal.Gen.facts) := by
  pair_intro
  · run_from Cert.Kernel2Ideal.Value.run_blocks m g
  · run_from Cert.Reference2Ideal.Value.run m' g'
    refine Eq.trans ?_ (final m c).symm
    refine funext fun i => ?_
    have hi : i = ix2 (i 0) (i 1) := by funext a; match a with | ⟨0, _⟩ => rfl | ⟨1, _⟩ => rfl
    exact (congrArg (Cert.Reference2Ideal.Read.val_main_v9 (F := Ideal) (hn m c) (w1 m c) (w2 m c)) hi).trans (ref_at (hn m c) (w1 m c) (w2 m c) (i 0) (i 1))

end Cert.Ffn

end
-- ==== Proof.Rms.lean ====
/- The root-mean-square normalisation of one row of 2048, and the logistic function, over the extended reals. -/
module

public import Idealize.ShloMosaic.Lib.Claim
public import Idealize.ShloMosaic.Lib.Pointwise

@[expose] public section

noncomputable section

namespace Cert.Rms

open Idealize.ShloMosaic

/-- The factor that normalises a row: the inverse root of its mean square plus a small constant. -/
def irms (x : Fin 2048 → EReal) : EReal :=
  Ideal.rsqrt (Ideal.div (∑ k : Fin 2048, x k * x k) (Ideal.ofBits .f32 0x45000000#32) + Ideal.ofBits .f32 0x358637BD#32)

/-- Column `d` of the normalised row, with its weight `g`. -/
def rms (x : Fin 2048 → EReal) (g : EReal) (d : Fin 2048) : EReal := x d * irms x * g

/-- The logistic function. -/
def sigm (z : EReal) : EReal :=
  Ideal.div (Ideal.ofBits .f32 0x3F800000#32) (Ideal.ofBits .f32 0x3F800000#32 + Ideal.exp (-z))

/-- Rows that agree normalise alike. -/
theorem rms_congr {x y : Fin 2048 → EReal} {g g' : EReal} (d : Fin 2048) (h : ∀ k, x k = y k) (hg : g = g') : rms x g d = rms y g' d := by
  rw [funext h, hg]

end Cert.Rms

end
-- ==== Proof.Proj.Ref.lean ====
/- The input projection: what the reference computes. -/
module

public import proofs.«01_k».proof.Proof.Rms
public import proofs.«01_k».proof.Proof.Gen.Reference3Ideal.Read

@[expose] public section

set_option maxRecDepth 16384

noncomputable section

namespace Cert.Proj

open Idealize.ShloMosaic Idealize.ShloMosaic.TcCoe Idealize.SL.Sem
open Cert.Reference3Ideal Cert.Reference3Ideal.Gen Cert.Reference3Ideal.Read Cert.Rms

variable (X : S32768x2048.Idx → EReal) (G : S2x2048.Idx → EReal) (W : S2x2048x16384.Idx → EReal)

/-- An element of the projection: a normalised row against a column of the weights. -/
def proj (r : Fin 32768) (n : Fin 16384) : EReal := ∑ d : Fin 2048, rms (fun k => X (ix2 r k)) (G (ix2 0 d)) d * W (ix3 0 d n)

/-- The attention queries' factor. -/
def qscale : EReal := Ideal.ofBits .f32 0x3E0293EE#32

/-- The projection with its queries scaled. -/
def scaled (r : Fin 32768) (n : Fin 16384) : EReal := if 7168 ≤ n.val ∧ n.val < 8192 then proj X G W r n * qscale else proj X G W r n

/-- The weights' column that the sixteen-bit result's column `n` holds: the gates first, the forget gate's columns left out. -/
def col (n : Fin 15360) : Fin 16384 := ⟨if n.val < 6144 then n.val + 10240 else if n.val < 10240 then n.val - 6144 else n.val - 5120, by split_ifs <;> omega⟩

theorem v14_at (r : Fin 32768) (d : Fin 2048) : (val_main_v14 (F := Ideal) X G (ix2 r d) : EReal) = rms (fun k => X (ix2 r k)) (G (ix2 0 d)) d := by
  unfold rms irms
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v17_at (r : Fin 32768) (n : Fin 16384) : (val_main_v17 (F := Ideal) X G W (ix2 r n) : EReal) = proj X G W r n := by
  unfold proj
  pointwise [val_main_v17, val_main_v16, val_main_v15]
  simp only [v14_at]

/-- The forget gate. -/
theorem v22_at (r : Fin 32768) (n : Fin 1024) :
    (val_main_v22 (F := Ideal) X G W (ix2 r n) : EReal) = proj X G W r ⟨4096 + n.val, by omega⟩ := by
  refine Eq.trans ?_ (v17_at X G W r _)
  pointwise [val_main_v22]

theorem scaled_plain (r : Fin 32768) {n : Fin 16384} (k : ℕ) (hk : k < 16384) (h : k = n.val) (h' : ¬(7168 ≤ n.val ∧ n.val < 8192)) :
    proj X G W r ⟨k, hk⟩ = scaled X G W r n := by
  subst h
  exact (if_neg h').symm

theorem scaled_query (r : Fin 32768) {n : Fin 16384} (k : ℕ) (hk : k < 16384) (h : k = n.val) (h' : 7168 ≤ n.val ∧ n.val < 8192) :
    proj X G W r ⟨k, hk⟩ * qscale = scaled X G W r n := by
  subst h
  exact (if_pos h').symm

set_option maxHeartbeats 1000000 in
/-- The other columns, gates first and queries scaled. -/
theorem v32_at (r : Fin 32768) (n : Fin 15360) : (val_main_v32 (F := Ideal) X G W (ix2 r n) : EReal) = scaled X G W r (col n) := by
  pointwise [val_main_v32, val_main_v31, val_main_v30, val_main_v29, val_main_v28, val_main_v27, val_main_v26, val_main_v25, val_main_v24, val_main_v23, val_main_v21, val_main_v20, val_main_v19, val_main_v18, val_main_cst_2]
  simp only [v17_at]
  have hn := n.isLt
  have h1 : n.val < 6144 → (col n).val = n.val + 10240 := fun h => if_pos h
  have h2 : ¬n.val < 6144 → n.val < 10240 → (col n).val = n.val - 6144 := fun h h' => (if_neg h).trans (if_pos h')
  have h3 : ¬n.val < 6144 → ¬n.val < 10240 → (col n).val = n.val - 5120 := fun h h' => (if_neg h).trans (if_neg h')
  split_ifs <;> first
    | exact scaled_plain X G W r _ _ (by omega) (by omega)
    | exact scaled_query X G W r _ _ (by omega) (by omega)

end Cert.Proj

end
-- ==== Proof.Proj.Array.lean ====
/- The input projection: the two arrays after the run. -/
module

public import proofs.«01_k».proof.Proof.Proj.FrameIdeal
public import proofs.«01_k».proof.Proof.Proj.Ref
public import Idealize.ShloMosaic.Lib.Pipeline.ValueKit
public import Idealize.ShloMosaic.Lib.Routing.OpsPair
public import Idealize.ShloMosaic.Lib.Routing.OpsSet

@[expose] public section

set_option maxRecDepth 16384

noncomputable section

namespace Cert.Proj

open Idealize.ShloMosaic Idealize.ShloMosaic.TcCoe Idealize.SL.Sem
open Cert.Kernel3Ideal Cert.Kernel3Ideal.Gen Cert.Kernel3Ideal.Proj Cert.Rms

/-! The body's values at an index. -/

theorem pay1_at (x : Vec Ideal S1024x2048 .f32) (g : Vec Ideal S1x2048 .f32) (a : Fin 1024) (d : Fin 2048) :
    (k0_pay1 (F := Ideal) x g (ix2 a d) : EReal) = rms (fun k => x (ix2 a k)) (g (ix2 0 d)) d := by
  unfold rms irms
  pointwise [k0_pay1]

theorem pay2_at (y : Vec Ideal S1024x2048 .bf16) (w : Vec Ideal S1x2048x1024 .bf16) (a b : Fin 1024) :
    (k0_pay2 (F := Ideal) y w (ix2 a b) : EReal) = ∑ d : Fin 2048, (fun u v : EReal => u * v) (y (ix2 a d)) (w (ix3 0 d b)) := by
  pointwise [k0_pay2]

theorem pay3_at (y : Vec Ideal S1024x2048 .bf16) (w : Vec Ideal S1x2048x1024 .bf16) (a b : Fin 1024) :
    (k0_pay3 (F := Ideal) y w (ix2 a b) : EReal) = ∑ d : Fin 2048, (fun u v : EReal => u * v) (y (ix2 a d)) (w (ix3 0 d b)) := by
  pointwise [k0_pay3]

/-! The weights' scale: the queries' factor on their columns, one on the others. -/

def cscale (n : Fin 16384) : EReal := if 7168 ≤ n.val ∧ n.val < 8192 then qscale else 1

theorem lands (idx : IVec S1 32) (h : (idx (ix1 0)).toInt = 7168) (j : Fin 1024) (e : Fin 16384) :
    scatter_S16384_S1_S1024_0_n_0_0.resultIdx? (ix1 j) idx = some (ix1 e) ↔ e.val = 7168 + j.val := by
  have hw : scatter_S16384_S1_S1024_0_n_0_0.window (ix1 j) 0 = j.val := by
    unfold ScatterDims.window
    rw [dif_pos (by decide)]
    have q : ∀ k : Fin 1, (ix1 j k).val = j.val := fun k => by
      obtain rfl : k = 0 := Subsingleton.elim _ _
      rfl
    exact q _
  have hs : scatter_S16384_S1_S1024_0_n_0_0.start (ix1 j) idx 0 = 7168 := by
    unfold ScatterDims.start
    rw [dif_pos (by decide)]
    exact (congrArg (fun k => (idx k).toInt) (by funext b; match b with | ⟨0, _⟩ => exact Subsingleton.elim (α := Fin 1) _ _)).trans h
  refine (Routing.resultIdx?_ix1 _ _ _ e).trans ?_
  rw [hs, hw]
  omega

/-- Ones with the queries' factor written over the columns 7168 to 8191. -/
theorem scatter_at (x : S16384.Idx → EReal) (idx : IVec S1 32) (u : S1024.Idx → EReal) (h : (idx (ix1 0)).toInt = 7168) (hx : ∀ i, x i = 1) (hu : ∀ i, u i = qscale)
    (n : Fin 16384) : Host.scatter scatter_S16384_S1_S1024_0_n_0_0 (fun _ b => b) x idx u (ix1 n) = cscale n := by
  unfold cscale
  by_cases hn : 7168 ≤ n.val ∧ n.val < 8192
  · rw [if_pos hn]
    exact Routing.scatter_set_hit _ x idx u (ix1 n) qscale (fun k _ => hu k) (ix1 ⟨n.val - 7168, by omega⟩) ((lands idx h _ n).mpr (by show n.val = 7168 + (n.val - 7168); omega))
  · rw [if_neg hn, ← hx (ix1 n)]
    refine Routing.scatter_set_miss _ x idx u (ix1 n) fun k hk => hn ?_
    rw [ValueIdx.eq_ix1 k] at hk
    have := (lands idx h (k 0) n).mp hk
    have hk0 : (k 0).val < 1024 := (k 0).isLt
    omega

theorem qscale_eq : ∃ r : ℝ, 0 ≤ r ∧ qscale = (r : EReal) := by
  refine ⟨8557550 * (2 ^ 26)⁻¹, by positivity, ?_⟩
  unfold qscale
  simp [Ideal.ofBits, Ideal.ieee]

theorem qscale_nonneg : 0 ≤ qscale := by
  obtain ⟨r, h, e⟩ := qscale_eq
  rw [e]
  exact_mod_cast h

theorem qscale_ne_top : qscale ≠ ⊤ := by
  obtain ⟨r, -, e⟩ := qscale_eq
  rw [e]
  exact EReal.coe_ne_top r

/-- A nonnegative finite factor comes out of a sum. -/
theorem sum_mul_of_finite {ι : Type} (s : Finset ι) (f : ι → EReal) {q : EReal} (h0 : 0 ≤ q) (ht : q ≠ ⊤) : ∑ k ∈ s, f k * q = (∑ k ∈ s, f k) * q := by
  classical
  induction s using Finset.induction_on with
  | empty => simp
  | insert a s ha ih => rw [Finset.sum_insert ha, Finset.sum_insert ha, ih, EReal.right_distrib_of_nonneg_of_ne_top h0 ht]

/-- Scaling the weights scales the projection. -/
theorem scaled_eq (X : S32768x2048.Idx → EReal) (G : S2x2048.Idx → EReal) (W : S2x2048x16384.Idx → EReal) (r : Fin 32768) (n : Fin 16384) :
    ∑ d : Fin 2048, rms (fun k => X (ix2 r k)) (G (ix2 0 d)) d * (W (ix3 0 d n) * cscale n) = scaled X G W r n := by
  unfold scaled cscale proj
  by_cases hn : 7168 ≤ n.val ∧ n.val < 8192
  · simp only [if_pos hn, ← mul_assoc]
    exact sum_mul_of_finite _ _ qscale_nonneg qscale_ne_top
  · simp only [if_neg hn, mul_one]

variable (m : (ℓ : Loc nD τ sig) → Buf (Elt Ideal) ℓ) (c : Dev nD)

abbrev aX : S32768x2048.Idx → EReal := m ((c.tc : Thread nD τ).loc main_arg0)
abbrev aG : S2x2048.Idx → EReal := m ((c.tc : Thread nD τ).loc main_arg1)
abbrev aW : S2x2048x16384.Idx → EReal := m ((c.tc : Thread nD τ).loc main_arg2)

theorem v10_eq (d : Fin 2048) : (V m c main_v10 : S1x2048.Idx → EReal) (ix2 0 d) = aG m c (ix2 0 d) := by
  entry_read
  pointwise []

theorem v7_eq (d : Fin 2048) (n : Fin 16384) : (V m c main_v7 : S2x2048x16384.Idx → EReal) (ix3 0 d n) = aW m c (ix3 0 d n) * cscale n := by
  entry_read
  pointwise []
  exact congrArg (fun z : EReal => (aW m c (ix3 0 d n) : EReal) * z) (scatter_at _ _ _ rfl (fun i => by pointwise []) (fun i => by unfold qscale; pointwise []) n)

/-- The block of columns that tile `j`'s buffer is written to. -/
def cblk (j : ℕ) : ℕ := if j < 4 then j + 6 else if j = 4 then 9 else if j < 10 then j + 5 else j - 10

theorem idx : ∀ t : Fin cfg0.N, win0_0.index t = ![t.val / 16, 0] ∧ win0_1.index t = ![0, 0] ∧ win0_2.index t = ![0, 0, t.val % 16]
    ∧ win0_3.index t = ![t.val / 16, cblk (t.val % 16)] ∧ win0_4.index t = ![t.val / 16, 0] := (by decide +kernel : ∀ t : Fin grid0.N, _)

theorem x_eq (t : Fin cfg0.N) (a : Fin 1024) (r : Fin 32768) (hr : r.val = 1024 * (t.val / 16) + a.val) (d : Fin 2048) :
    (iblk m c 0 t (ix2 a d) : EReal) = aX m c (ix2 r d) := by
  blk_point [iblk, idx t]

theorem g_eq (t : Fin cfg0.N) (d : Fin 2048) : (iblk m c 1 t (ix2 0 d) : EReal) = aG m c (ix2 0 d) := by
  refine Eq.trans ?_ (v10_eq m c d)
  blk_point [iblk, idx t]

theorem w_eq (t : Fin cfg0.N) (d : Fin 2048) (b : Fin 1024) (n : Fin 16384) (hn : n.val = 1024 * (t.val % 16) + b.val) :
    (iblk m c 2 t (ix3 0 d b) : EReal) = aW m c (ix3 0 d n) * cscale n := by
  refine Eq.trans ?_ (v7_eq m c d n)
  blk_point [iblk, idx t]

/-- The scratch of row block `i`. -/
theorem rows_at (i : ℕ) (hi : i < 32) (a : Fin 1024) (r : Fin 32768) (hr : r.val = 1024 * i + a.val) (d : Fin 2048) :
    (rows m c i hi (ix2 a d) : EReal) = rms (fun k => aX m c (ix2 r k)) (aG m c (ix2 0 d)) d := by
  refine (pay1_at _ _ a d).trans (rms_congr d (fun k => x_eq m c _ a r ?_ k) (g_eq m c _ d))
  show r.val = 1024 * ((16 * i + 0) / 16) + a.val
  omega

/-- What the products of row block `i` with tile `j` are. -/
theorem product_at (i j : ℕ) (h : 16 * i + j < 512) (hi : i < 32) (hj : j < 16) (a b : Fin 1024) (r : Fin 32768) (hr : r.val = 1024 * i + a.val) (n : Fin 16384)
    (hn : n.val = 1024 * j + b.val) :
    (∑ d : Fin 2048, (fun u v : EReal => u * v) (rows m c i hi (ix2 a d)) (iblk m c 2 (pt i j h) (ix3 0 d b)))
      = scaled (aX m c) (aG m c) (aW m c) r n := by
  refine Eq.trans (Finset.sum_congr rfl fun d _ => congrArg₂ (fun u v : EReal => u * v) (rows_at m c i hi a r hr d) (w_eq m c _ d b n ?_)) (scaled_eq _ _ _ r n)
  show n.val = 1024 * ((16 * i + j) % 16) + b.val
  omega

theorem tile_at (i j : ℕ) (h : 16 * i + j < 512) (hi : i < 32) (hj : j < 16) (a b : Fin 1024) (r : Fin 32768) (hr : r.val = 1024 * i + a.val) (n : Fin 15360)
    (hn : n.val = 1024 * cblk j + b.val) : (tile m c i j h hi (ix2 a b) : EReal) = scaled (aX m c) (aG m c) (aW m c) r (col n) := by
  refine (pay2_at _ _ a b).trans (product_at m c i (if j = 4 then 3 else j) _ hi (by split <;> omega) a b r hr (col n) ?_)
  have hb := b.isLt
  unfold cblk at hn
  unfold col
  show (if n.val < 6144 then n.val + 10240 else if n.val < 10240 then n.val - 6144 else n.val - 5120) = 1024 * (if j = 4 then 3 else j) + b.val
  split_ifs at hn ⊢ <;> omega

theorem gate_at (i : ℕ) (hi : i < 32) (a b : Fin 1024) (r : Fin 32768) (hr : r.val = 1024 * i + a.val) :
    (gate m c i hi (ix2 a b) : EReal) = proj (aX m c) (aG m c) (aW m c) r ⟨4096 + b.val, by omega⟩ := by
  refine (pay3_at _ _ a b).trans ((product_at m c i 4 _ hi (by omega) a b r hr ⟨4096 + b.val, by omega⟩ rfl).trans ?_)
  exact (scaled_plain _ _ _ r _ _ rfl (by show ¬(7168 ≤ 4096 + b.val ∧ 4096 + b.val < 8192); omega)).symm

/-- The sixteen-bit array after the run. -/
theorem final3 : (dats m 0 c).arrAt 3 cfg0.N = fun i : S32768x15360.Idx => scaled (aX m c) (aG m c) (aW m c) (i 0) (col (i 1)) := by
  refine (dats m 0 c).arrAt_eq_of_covers 3 _ (by decide +kernel) fun t hf y => ?_
  have ht : t.val < 512 := lt_of_lt_of_eq t.isLt N_0
  blk_simp
  have hy0 : (y 0).val < 1024 := (y 0).isLt
  have hy1 : (y 1).val < 1024 := (y 1).isLt
  have hc : cblk (t.val % 16) < 15 := by unfold cblk; split_ifs <;> omega
  have e0 : (⟨1024 * (t.val / 16) + (y 0).val, by omega⟩ : Fin 32768) = (win0_3.blk t).view.emb y 0 :=
    Fin.ext (by blk_simp [idx t]; show 1024 * (t.val / 16) + (y 0).val = _; omega)
  have e1 : (⟨1024 * cblk (t.val % 16) + (y 1).val, by omega⟩ : Fin 15360) = (win0_3.blk t).view.emb y 1 :=
    Fin.ext (by blk_simp [idx t]; show 1024 * cblk (t.val % 16) + (y 1).val = _; omega)
  rw [after_3, ← e0, ← e1]
  have hyy : y = ix2 (y 0) (y 1) := by funext a; match a with | ⟨0, _⟩ => rfl | ⟨1, _⟩ => rfl
  exact Eq.trans (congrArg _ hyy) (tile_at m c _ _ _ _ (by omega) (y 0) (y 1) ⟨1024 * (t.val / 16) + (y 0).val, by omega⟩ rfl ⟨1024 * cblk (t.val % 16) + (y 1).val, by omega⟩ rfl)

/-- The forget gate's array after the run. -/
theorem final4 : (dats m 0 c).arrAt 4 cfg0.N
    = fun i : S32768x1024.Idx => proj (aX m c) (aG m c) (aW m c) (i 0) ⟨4096 + (i 1).val, by have h : (i 1).val < 1024 := (i 1).isLt; omega⟩ := by
  refine (dats m 0 c).arrAt_eq_of_covers 4 _ (by decide +kernel) fun t hf y => ?_
  have ht : t.val < 512 := lt_of_lt_of_eq t.isLt N_0
  blk_simp
  have hy0 : (y 0).val < 1024 := (y 0).isLt
  have hy1 : (y 1).val < 1024 := (y 1).isLt
  have e0 : (⟨1024 * (t.val / 16) + (y 0).val, by omega⟩ : Fin 32768) = (win0_4.blk t).view.emb y 0 :=
    Fin.ext (by blk_simp [idx t]; show 1024 * (t.val / 16) + (y 0).val = _; omega)
  have e1 : win0_4.index t 1 = 0 := by rw [(idx t).2.2.2.2]; rfl
  rw [after_4, ← e0]
  have hyy : y = ix2 (y 0) (y 1) := by funext a; match a with | ⟨0, _⟩ => rfl | ⟨1, _⟩ => rfl
  refine Eq.trans (congrArg _ hyy) ((gate_at m c _ _ (y 0) (y 1) ⟨1024 * (t.val / 16) + (y 0).val, by omega⟩ rfl).trans ?_)
  exact congrArg (proj _ _ _ _) (Fin.ext (by show 4096 + (y 1).val = 4096 + (win0_4.index t 1 * 1024 + (y 1).val); rw [e1]; omega))

end Cert.Proj

end
-- ==== Proof.Proj.Algebraic.lean ====
/- The input projection: the kernel and the reference end with the same two arrays. -/
module

public import proofs.«01_k».proof.Defs
public import proofs.«01_k».proof.Proof.Proj.Array
public import proofs.«01_k».proof.Proof.Gen.Reference3Ideal.Run
public import Idealize.ShloMosaic.Lib.Claim

@[expose] public section

set_option maxRecDepth 16384

noncomputable section

namespace Cert.Proj

open Idealize.ShloMosaic Idealize.ShloMosaic.TcCoe Idealize.SL.Sem

theorem algebraic : Cert.algebraic_Kernel3Ideal_Reference3Ideal (hKernel3Ideal := Cert.Kernel3Ideal.Gen.facts) (hReference3Ideal := Cert.Reference3Ideal.Gen.facts) := by
  pair_intro
  · run_from Cert.Kernel3Ideal.Proj.run_main m g
  · run_from Cert.Reference3Ideal.Value.run m' g'
    all_goals obtain ⟨h0, h1, h2⟩ := hagree c
    · rw [Cert.Reference3Ideal.Read.val_main_v32_eq, h0, h1, h2]
      refine Eq.trans ?_ (final3 m c).symm
      refine funext fun i => ?_
      have hi : i = ix2 (i 0) (i 1) := by funext a; match a with | ⟨0, _⟩ => rfl | ⟨1, _⟩ => rfl
      exact (congrArg (Cert.Reference3Ideal.Read.val_main_v32 (F := Ideal) (aX m c) (aG m c) (aW m c)) hi).trans (v32_at (aX m c) (aG m c) (aW m c) (i 0) (i 1))
    · refine Eq.trans ?_ (final4 m c).symm
      refine funext fun i => ?_
      have hi : i = ix2 (i 0) (i 1) := by funext a; match a with | ⟨0, _⟩ => rfl | ⟨1, _⟩ => rfl
      exact (congrArg (Cert.Reference3Ideal.Read.val_main_v22 (F := Ideal) (aX m c) (aG m c) (aW m c)) hi).trans (v22_at (aX m c) (aG m c) (aW m c) (i 0) (i 1))

end Cert.Proj

end
-- ==== Proof.Mix.Row.lean ====
/- The readouts of the three branches for one row: the gated short convolution, the normalised and gated recurrence, and
   their merge with the attention's output. -/
module

public import proofs.«01_k».proof.Proof.Rms

@[expose] public section

noncomputable section

namespace Cert.Mix

open Idealize.ShloMosaic Cert.Rms

/-- Column `e` of a head `x` normalised with weight `g`, times the gate `z` times its logistic function. -/
def headUnit (x : Fin 128 → EReal) (g z : EReal) (e : Fin 128) : EReal :=
  x e * Ideal.rsqrt (Ideal.div (∑ k : Fin 128, x k * x k) (Ideal.ofBits .f32 0x43000000#32) + Ideal.ofBits .f32 0x358637BD#32) * g * (z * sigm z)

/-- The recurrence's readout: each of the eight heads of a row normalised and gated. -/
def heads (x : Fin 1024 → EReal) (g : Fin 128 → EReal) (z : Fin 1024 → EReal) (n : Fin 1024) : EReal :=
  headUnit (fun k : Fin 128 => x ⟨128 * (n.val / 128) + k.val, by omega⟩) (g ⟨n.val % 128, by omega⟩) (z n) ⟨n.val % 128, by omega⟩

/-- The readout at column `e` of the head `h`. -/
theorem heads_of (x : Fin 1024 → EReal) (g : Fin 128 → EReal) (z : Fin 1024 → EReal) (n : Fin 1024) (h : ℕ) (e : Fin 128)
    (hn : n.val = 128 * h + e.val) (col : Fin 128 → Fin 1024) (hcol : ∀ k, (col k).val = 128 * h + k.val) :
    headUnit (fun k => x (col k)) (g e) (z (col e)) e = heads x g z n := by
  have h1 : n.val / 128 = h := by omega
  have h2 : (⟨n.val % 128, by omega⟩ : Fin 128) = e := Fin.ext (by simp only []; omega)
  have h3 : col e = n := Fin.ext ((hcol e).trans hn.symm)
  unfold heads
  rw [h2, h3]
  exact congrArg (fun f : Fin 128 → EReal => headUnit f (g e) (z n) e) (funext fun k => congrArg x (Fin.ext ((hcol k).trans (by simp only []; omega))))

/-- The convolution's readout at one column: the gate times the weighted sum of the value and the two values before it. -/
def conv (g u2 u1 u w0 w1 w2 : EReal) : EReal := g * (u2 * w0 + u1 * w1 + u * w2)

/-- The gated merge of the three readouts, each by its weights' column. -/
def merge (gc gh ga : EReal) (yc yh ya w0 w1 w2 : Fin 1024 → EReal) : EReal :=
  sigm gc * ∑ k : Fin 1024, yc k * w0 k + sigm gh * ∑ k : Fin 1024, yh k * w1 k + sigm ga * ∑ k : Fin 1024, ya k * w2 k

theorem merge_congr {gc gh ga gc' gh' ga' : EReal} {yc yh ya w0 w1 w2 yc' yh' ya' w0' w1' w2' : Fin 1024 → EReal} (h1 : gc = gc') (h2 : gh = gh')
    (h3 : ga = ga') (h4 : ∀ k, yc k = yc' k) (h5 : ∀ k, yh k = yh' k) (h6 : ∀ k, ya k = ya' k) (h7 : ∀ k, w0 k = w0' k) (h8 : ∀ k, w1 k = w1' k)
    (h9 : ∀ k, w2 k = w2' k) : merge gc gh ga yc yh ya w0 w1 w2 = merge gc' gh' ga' yc' yh' ya' w0' w1' w2' := by
  rw [h1, h2, h3, funext h4, funext h5, funext h6, funext h7, funext h8, funext h9]

theorem heads_congr {x x' z z' : Fin 1024 → EReal} {g g' : Fin 128 → EReal} (n : Fin 1024) (hx : ∀ k, x k = x' k) (hg : ∀ e, g e = g' e)
    (hz : ∀ k, z k = z' k) : heads x g z n = heads x' g' z' n := by
  rw [funext hx, funext hg, funext hz]

theorem conv_congr {g u2 u1 u w0 w1 w2 g' u2' u1' u' w0' w1' w2' : EReal} (h1 : g = g') (h2 : u2 = u2') (h3 : u1 = u1') (h4 : u = u') (h5 : w0 = w0')
    (h6 : w1 = w1') (h7 : w2 = w2') : conv g u2 u1 u w0 w1 w2 = conv g' u2' u1' u' w0' w1' w2' := by
  rw [h1, h2, h3, h4, h5, h6, h7]

end Cert.Mix

end
-- ==== Proof.Mix.Conv.lean ====
/- The gated short convolution: what one grid point computes of it. -/
module

public import proofs.«01_k».proof.Proof.Gen.Kernel4Ideal.Value
public import proofs.«01_k».proof.Proof.Mix.Row
public import Idealize.ShloMosaic.Lib.Pipeline.ValueKit

@[expose] public section

set_option maxRecDepth 16384

noncomputable section

namespace Cert.Mix

open Idealize.ShloMosaic Idealize.ShloMosaic.TcCoe Idealize.SL.Sem
open Cert.Kernel4Ideal Cert.Kernel4Ideal.Gen Cert.Rms

/-- The test whether a grid point is the first of its sequence. -/
theorem first_word : ∀ v : Fin 128, Scalar.cmpi .eq (Scalar.select (Scalar.andi (Scalar.xori (Scalar.cmpi .slt (Scalar.remsi (BitVec.ofNat 32 v.val)
      (Scalar.select (Scalar.cmpi .eq 8#32 0#32) 1#32 8#32)) 0#32) (Scalar.cmpi .slt (Scalar.select (Scalar.cmpi .eq 8#32 0#32) 1#32 8#32) 0#32))
      (Scalar.cmpi .ne (Scalar.remsi (BitVec.ofNat 32 v.val) (Scalar.select (Scalar.cmpi .eq 8#32 0#32) 1#32 8#32)) 0#32))
      (Scalar.addi (Scalar.remsi (BitVec.ofNat 32 v.val) (Scalar.select (Scalar.cmpi .eq 8#32 0#32) 1#32 8#32))
        (Scalar.select (Scalar.cmpi .eq 8#32 0#32) 1#32 8#32))
      (Scalar.remsi (BitVec.ofNat 32 v.val) (Scalar.select (Scalar.cmpi .eq 8#32 0#32) 1#32 8#32))) 0#32
    = if v.val % 8 = 0 then 1#1 else 0#1 := by decide +kernel

/-- A row of the eight before a tile: the product of its two columns, or zero before a sequence. -/
def halo (t : ℕ) (x3 x4 : Vec Ideal S8x1024 .bf16) (a : Fin 8) (n : Fin 1024) : EReal :=
  if t % 8 = 0 then 0 else x3 (ix2 a n) * x4 (ix2 a n)

theorem pay3_at (i : grid0.Coords) (x3 x4 : Vec Ideal S8x1024 .bf16) (a : Fin 8) (n : Fin 1024) :
    (k0_pay3 (F := Ideal) i x3 x4 (ix2 a n) : EReal) = halo (i 0).val x3 x4 a n := by
  unfold halo
  pointwise [k0_pay3]
  refine Eq.trans (congrArg (fun w : BitVec 1 => (Scalar.select w (0 : EReal) (x3 (ix2 a n) * x4 (ix2 a n)))) (first_word (i 0))) ?_
  split
  · rfl
  · rfl

/-- The value one row before row `a` of a tile. -/
def back1 (t : ℕ) (x1 x2 : Vec Ideal S256x1024 .bf16) (x3 x4 : Vec Ideal S8x1024 .bf16) (a : Fin 256) (n : Fin 1024) : EReal :=
  if h : 1 ≤ a.val then x1 (ix2 ⟨a.val - 1, by omega⟩ n) * x2 (ix2 ⟨a.val - 1, by omega⟩ n) else halo t x3 x4 7 n

/-- The value two rows before row `a` of a tile. -/
def back2 (t : ℕ) (x1 x2 : Vec Ideal S256x1024 .bf16) (x3 x4 : Vec Ideal S8x1024 .bf16) (a : Fin 256) (n : Fin 1024) : EReal :=
  if h : 2 ≤ a.val then x1 (ix2 ⟨a.val - 2, by omega⟩ n) * x2 (ix2 ⟨a.val - 2, by omega⟩ n)
  else if a.val = 1 then halo t x3 x4 7 n else halo t x3 x4 6 n

theorem ge1 : ∀ a : Fin 256, IntOp.cmpi .sge (BitVec.ofNat 32 a.val) 1#32 = if 1 ≤ a.val then 1#1 else 0#1 := by decide +kernel
theorem ge2 : ∀ a : Fin 256, IntOp.cmpi .sge (BitVec.ofNat 32 a.val) 2#32 = if 2 ≤ a.val then 1#1 else 0#1 := by decide +kernel
theorem eq1 : ∀ a : Fin 256, IntOp.cmpi .eq (BitVec.ofNat 32 a.val) 1#32 = if a.val = 1 then 1#1 else 0#1 := by decide +kernel

theorem pay6_at (i : grid0.Coords) (x1 x2 : Vec Ideal S256x1024 .bf16) (x3 x4 : Vec Ideal S8x1024 .bf16) (a : Fin 256) (n : Fin 1024) :
    (k0_pay6 (F := Ideal) i x1 x2 x3 x4 (ix2 a n) : EReal) = back1 (i 0).val x1 x2 x3 x4 a n := by
  unfold back1
  pointwise [k0_pay6, k0_pay4, k0_pay2]
  rw [ge1, pay3_at]
  by_cases h : 1 ≤ a.val
  · rw [if_pos h, dif_pos h]
    have e : (⟨(a.val + 256 - 1) % 256, by omega⟩ : Fin 256) = ⟨a.val - 1, by omega⟩ := Fin.ext (by simp only []; omega)
    exact congrArg (fun k : Fin 256 => (x1 (ix2 k n) * x2 (ix2 k n) : EReal)) e
  · rw [if_neg h, dif_neg h]
    rfl

theorem pay7_at (i : grid0.Coords) (x0 x1 x2 : Vec Ideal S256x1024 .bf16) (x3 x4 : Vec Ideal S8x1024 .bf16) (x5 : Vec Ideal S3x1024 .f32) (a : Fin 256)
    (n : Fin 1024) :
    (k0_pay7 (F := Ideal) x0 x5 (k0_pay2 x1 x2) (k0_pay4 i x3 x4) (k0_pay5 i x3 x4) (iota Kind.tc S256x1024 32 [0] iota_S256x1024_d0_w32)
        (k0_pay6 i x1 x2 x3 x4) 2#32 (ix2 a n) : EReal)
      = conv (x0 (ix2 a n)) (back2 (i 0).val x1 x2 x3 x4 a n) (back1 (i 0).val x1 x2 x3 x4 a n) (x1 (ix2 a n) * x2 (ix2 a n))
          (x5 (ix2 0 n)) (x5 (ix2 1 n)) (x5 (ix2 2 n)) := by
  unfold conv back2
  pointwise [k0_pay7, k0_pay2, k0_pay4, k0_pay5]
  rw [ge2, eq1, pay6_at, pay3_at, pay3_at]
  refine congrArg (fun z : EReal => x0 (ix2 a n) * (z * x5 (ix2 0 n) + back1 (i 0).val x1 x2 x3 x4 a n * x5 (ix2 1 n) + x1 (ix2 a n) * x2 (ix2 a n) * x5 (ix2 2 n))) ?_
  by_cases h : 2 ≤ a.val
  · rw [if_pos h, dif_pos h]
    have e : (⟨(a.val + 256 - 2) % 256, by omega⟩ : Fin 256) = ⟨a.val - 2, by omega⟩ := Fin.ext (by simp only []; omega)
    exact congrArg (fun k : Fin 256 => (x1 (ix2 k n) * x2 (ix2 k n) : EReal)) e
  · rw [if_neg h, dif_neg h]
    by_cases h1 : a.val = 1
    · rw [if_pos h1, if_pos h1]
      rfl
    · rw [if_neg h1, if_neg h1]
      rfl

end Cert.Mix

end
-- ==== Proof.Mix.Heads.lean ====
/- The recurrence's readout: what one grid point computes of it. -/
module

public import proofs.«01_k».proof.Proof.Gen.Kernel4Ideal.Value
public import proofs.«01_k».proof.Proof.Mix.Row
public import Idealize.ShloMosaic.Lib.Pipeline.ValueKit

@[expose] public section

set_option maxRecDepth 16384

noncomputable section

namespace Cert.Mix

open Idealize.ShloMosaic Idealize.ShloMosaic.TcCoe Idealize.SL.Sem
open Cert.Kernel4Ideal Cert.Kernel4Ideal.Gen Cert.Rms

variable (x6 x7 : Vec Ideal S256x1024 .bf16) (x8 : Vec Ideal S1x128 .f32) (a : Fin 256) (e : Fin 128)

/-- The unit of the head that begins at column `o`. -/
def unitAt (x6 x7 : Vec Ideal S256x1024 .bf16) (x8 : Vec Ideal S1x128 .f32) (a : Fin 256) (o : ℕ) (ho : o + 128 ≤ 1024) (e : Fin 128) : EReal :=
  headUnit (fun k : Fin 128 => x6 (ix2 a ⟨o + k.val, by omega⟩)) (x8 (ix2 0 e)) (x7 (ix2 a ⟨o + e.val, by omega⟩)) e

theorem head0 : (k0_pay15 (F := Ideal) (k0_pay11 x7) (k0_pay12 x6 x8) (k0_pay13 x7) k0_pay14 (ix2 a e) : EReal) = unitAt x6 x7 x8 a 0 (by omega) e := by
  unfold unitAt headUnit sigm
  rw [← zero_sub]
  pointwise [k0_pay15, k0_pay11, k0_pay12, k0_pay13, k0_pay14, k0_pay8, k0_pay9, k0_pay10]

theorem head1 : (k0_pay16 (F := Ideal) (k0_pay8 x6) (k0_pay9 x7) (k0_pay10 x8) (ix2 a e) : EReal) = unitAt x6 x7 x8 a 128 (by omega) e := by
  unfold unitAt headUnit sigm
  rw [← zero_sub]
  pointwise [k0_pay16, k0_pay8, k0_pay9, k0_pay10]

theorem head2 : (k0_pay19 (F := Ideal) (k0_pay17 (k0_pay8 x6) (k0_pay10 x8)) (k0_pay18 (k0_pay9 x7)) (ix2 a e) : EReal) = unitAt x6 x7 x8 a 256 (by omega) e := by
  unfold unitAt headUnit sigm
  rw [← zero_sub]
  pointwise [k0_pay19, k0_pay17, k0_pay18, k0_pay8, k0_pay9, k0_pay10]

theorem head3 : (k0_pay20 (F := Ideal) (k0_pay8 x6) (k0_pay9 x7) (k0_pay10 x8) (ix2 a e) : EReal) = unitAt x6 x7 x8 a 384 (by omega) e := by
  unfold unitAt headUnit sigm
  rw [← zero_sub]
  pointwise [k0_pay20, k0_pay8, k0_pay9, k0_pay10]

theorem head4 : (k0_pay21 (F := Ideal) (k0_pay8 x6) (k0_pay9 x7) (k0_pay10 x8) (ix2 a e) : EReal) = unitAt x6 x7 x8 a 512 (by omega) e := by
  unfold unitAt headUnit sigm
  rw [← zero_sub]
  pointwise [k0_pay21, k0_pay8, k0_pay9, k0_pay10]

theorem head5 : (k0_pay23 (F := Ideal) (k0_pay8 x6) (k0_pay10 x8) (k0_pay22 (k0_pay9 x7)) (ix2 a e) : EReal) = unitAt x6 x7 x8 a 640 (by omega) e := by
  unfold unitAt headUnit sigm
  rw [← zero_sub]
  pointwise [k0_pay23, k0_pay22, k0_pay8, k0_pay9, k0_pay10]

theorem head6 : (k0_pay24 (F := Ideal) (k0_pay8 x6) (k0_pay9 x7) (k0_pay10 x8) (ix2 a e) : EReal) = unitAt x6 x7 x8 a 768 (by omega) e := by
  unfold unitAt headUnit sigm
  rw [← zero_sub]
  pointwise [k0_pay24, k0_pay8, k0_pay9, k0_pay10]

/-- A head's unit is the readout at the head's columns. -/
theorem unit_heads (o : ℕ) (ho : o + 128 ≤ 1024) (n : Fin 1024) (h : ℕ) (hh : o = 128 * h) (hn : n.val = o + e.val) :
    unitAt x6 x7 x8 a o ho e = heads (fun k => x6 (ix2 a k)) (fun k => x8 (ix2 0 k)) (fun k => x7 (ix2 a k)) n :=
  heads_of (fun k => x6 (ix2 a k)) (fun k => x8 (ix2 0 k)) (fun k => x7 (ix2 a k)) n h e (by omega) (fun k => ⟨o + k.val, by omega⟩) (fun k => by simp only []; omega)

/-- The eight heads side by side. -/
theorem pay28_at (n : Fin 1024) :
    (k0_pay28 (F := Ideal) (k0_pay10 x8) (k0_pay15 (k0_pay11 x7) (k0_pay12 x6 x8) (k0_pay13 x7) k0_pay14) (k0_pay16 (k0_pay8 x6) (k0_pay9 x7) (k0_pay10 x8))
        (k0_pay19 (k0_pay17 (k0_pay8 x6) (k0_pay10 x8)) (k0_pay18 (k0_pay9 x7))) (k0_pay20 (k0_pay8 x6) (k0_pay9 x7) (k0_pay10 x8))
        (k0_pay21 (k0_pay8 x6) (k0_pay9 x7) (k0_pay10 x8)) (k0_pay23 (k0_pay8 x6) (k0_pay10 x8) (k0_pay22 (k0_pay9 x7)))
        (k0_pay24 (k0_pay8 x6) (k0_pay9 x7) (k0_pay10 x8)) (k0_pay25 (k0_pay9 x7)) (k0_pay26 (k0_pay8 x6)) (k0_pay27 (k0_pay8 x6)) (ix2 a n) : EReal)
      = heads (fun k => x6 (ix2 a k)) (fun k => x8 (ix2 0 k)) (fun k => x7 (ix2 a k)) n := by
  pointwise [k0_pay28]
  simp only [head0, head1, head2, head3, head4, head5, head6]
  split
  · exact unit_heads x6 x7 x8 a _ 0 _ n 0 rfl (by simp only []; omega)
  split
  · exact unit_heads x6 x7 x8 a _ 128 _ n 1 rfl (by simp only []; omega)
  split
  · exact unit_heads x6 x7 x8 a _ 256 _ n 2 rfl (by simp only []; omega)
  split
  · exact unit_heads x6 x7 x8 a _ 384 _ n 3 rfl (by simp only []; omega)
  split
  · exact unit_heads x6 x7 x8 a _ 512 _ n 4 rfl (by simp only []; omega)
  split
  · exact unit_heads x6 x7 x8 a _ 640 _ n 5 rfl (by simp only []; omega)
  split
  · exact unit_heads x6 x7 x8 a _ 768 _ n 6 rfl (by simp only []; omega)
  refine Eq.trans ?_ (unit_heads x6 x7 x8 a ⟨n.val - 896, by omega⟩ 896 (by omega) n 7 rfl (by simp only []; omega))
  have e7 : (⟨n.val - 128 - 128 - 128 - 128 - 128 - 128 - 128, by omega⟩ : Fin 128) = ⟨n.val - 896, by omega⟩ := Fin.ext (by simp only []; omega)
  rw [e7]
  unfold unitAt headUnit sigm
  rw [← zero_sub]
  pointwise [k0_pay25, k0_pay26, k0_pay27, k0_pay8, k0_pay9, k0_pay10]

end Cert.Mix

end
-- ==== Proof.Mix.Merge.lean ====
/- The merge of the branches, the output projection and the norm: what one grid point computes. -/
module

public import proofs.«01_k».proof.Proof.Mix.Conv
public import proofs.«01_k».proof.Proof.Mix.Heads
public import Idealize.ShloMosaic.Lib.Pipeline.ValueKit

@[expose] public section

set_option maxRecDepth 16384

noncomputable section

namespace Cert.Mix

open Idealize.ShloMosaic Idealize.ShloMosaic.TcCoe Idealize.SL.Sem
open Cert.Kernel4Ideal Cert.Kernel4Ideal.Gen Cert.Rms

theorem pay29_at (y : FVec Ideal S256x1024 .f32) (x10 : Vec Ideal S256x2048 .bf16) (w : Vec Ideal S1x1x1024x2048 .bf16) (a : Fin 256) (n : Fin 2048) :
    (k0_pay29 (F := Ideal) y x10 w (ix2 a n) : EReal) = sigm (x10 (ix2 a n)) * ∑ k : Fin 1024, y (ix2 a k) * w (ix4 0 0 k n) := by
  unfold sigm
  rw [← zero_sub]
  pointwise [k0_pay29]

/-- The stream after the branches, from the readouts. -/
theorem pay31_at (y yh : FVec Ideal S256x1024 .f32) (x10 x11 x12 : Vec Ideal S256x2048 .bf16) (x9 : Vec Ideal S256x1024 .bf16)
    (w0 w1 w2 : Vec Ideal S1x1x1024x2048 .bf16) (x13 : Vec Ideal S256x2048 .f32) (x15 : Vec Ideal S1x2048x2048 .bf16) (a : Fin 256) (n : Fin 2048) :
    (k0_pay31 (F := Ideal) yh (k0_pay29 y x10 w0) (k0_pay30 x11) (FloatOps.ofBits FTy.f32 1065353216#32) w1 x12 x9 w2 x13 x15 (ix2 a n) : EReal)
      = x13 (ix2 a n) + ∑ j : Fin 2048, merge (x10 (ix2 a j)) (x11 (ix2 a j)) (x12 (ix2 a j)) (fun k => y (ix2 a k)) (fun k => yh (ix2 a k))
          (fun k => x9 (ix2 a k)) (fun k => w0 (ix4 0 0 k j)) (fun k => w1 (ix4 0 0 k j)) (fun k => w2 (ix4 0 0 k j)) * x15 (ix3 0 j n) := by
  unfold merge sigm
  simp only [← zero_sub]
  pointwise [k0_pay31, k0_pay30, k0_pay29]

theorem pay1_at (x : FVec Ideal S256x2048 .f32) (g : Vec Ideal S1x2048 .f32) (a : Fin 256) (n : Fin 2048) :
    (k0_pay1 (F := Ideal) x g (ix2 a n) : EReal) = rms (fun d => x (ix2 a d)) (g (ix2 0 n)) n := by
  unfold rms irms
  pointwise [k0_pay1]

end Cert.Mix

end
-- ==== Proof.Mix.Ref.lean ====
/- The branches' readouts and their merge: what the reference computes. -/
module

public import proofs.«01_k».proof.Proof.Mix.Row
public import proofs.«01_k».proof.Proof.Gen.Reference4Ideal.Read

@[expose] public section

set_option maxRecDepth 16384

noncomputable section

namespace Cert.Mix

open Idealize.ShloMosaic Idealize.ShloMosaic.TcCoe Idealize.SL.Sem
open Cert.Reference4Ideal Cert.Reference4Ideal.Gen Cert.Reference4Ideal.Read Cert.Rms

variable (P : S32768x15360.Idx → EReal) (O Y : S32768x1024.Idx → EReal) (H : S32768x2048.Idx → EReal) (C : S3x1024.Idx → EReal)
  (N : S128.Idx → EReal) (B : S2x3x1024x2048.Idx → EReal) (W : S2x2048x2048.Idx → EReal) (G : S2x2048.Idx → EReal)

/-- The convolution's value at a row. -/
def val (r : Fin 32768) (n : Fin 1024) : EReal := P (ix2 r ⟨7168 + n.val, by omega⟩) * P (ix2 r ⟨8192 + n.val, by omega⟩)

/-- The value `d` rows before, zero before the row's sequence. -/
def prev (r : Fin 32768) (d : ℕ) (n : Fin 1024) : EReal := if d ≤ r.val % 2048 then val P ⟨r.val - d, by omega⟩ n else 0

/-- The convolution's readout. -/
def convRow (r : Fin 32768) (n : Fin 1024) : EReal :=
  conv (P (ix2 r ⟨6144 + n.val, by omega⟩)) (prev P r 2 n) (prev P r 1 n) (val P r n) (C (ix2 0 n)) (C (ix2 1 n)) (C (ix2 2 n))

/-- The recurrence's readout. -/
def headRow (r : Fin 32768) (n : Fin 1024) : EReal :=
  heads (fun k => O (ix2 r k)) (fun e => N (ix1 e)) (fun k => P (ix2 r ⟨11264 + k.val, by omega⟩)) n

/-- The merged row. -/
def mergeRow (r : Fin 32768) (j : Fin 2048) : EReal :=
  merge (P (ix2 r ⟨j.val, by omega⟩)) (P (ix2 r ⟨2048 + j.val, by omega⟩)) (P (ix2 r ⟨4096 + j.val, by omega⟩)) (convRow P C r) (headRow P O N r)
    (fun k => Y (ix2 r k)) (fun k => B (ix4 0 0 k j)) (fun k => B (ix4 0 1 k j)) (fun k => B (ix4 0 2 k j))

/-- The stream after the branches. -/
def stream (r : Fin 32768) (n : Fin 2048) : EReal := H (ix2 r n) + ∑ j : Fin 2048, mergeRow P O Y C N B r j * W (ix3 0 j n)

/-- The stream normalised for the feed-forward. -/
def normed (r : Fin 32768) (n : Fin 2048) : EReal := rms (stream P O Y H C N B W r) (G (ix2 0 n)) n

theorem v8_at (r : Fin 32768) (n : Fin 1024) : (val_main_v8 (F := Ideal) P (ix2 r n) : EReal) = val P r n := by
  unfold val
  pointwise [val_main_v8, val_main_v6, val_main_v5, val_main_v0]

theorem pad_at (b : Fin 16) (s : Fin 2050) (n : Fin 1024) :
    (val_main_v10 (F := Ideal) P (ix3 b s n) : EReal) = if h : 2 ≤ s.val then val P ⟨2048 * b.val + (s.val - 2), by omega⟩ n else 0 := by
  pointwise [val_main_v10, val_main_v9, val_main_call0_v0, val_main_c]
  have z : (FloatOps.sitofp (F := Ideal) FTy.f32 (0#32) : EReal) = 0 := by
    show (((0#32 : BitVec 32).toInt : ℝ) : EReal) = 0
    simp
  by_cases h : 2 ≤ s.val
  · rw [dif_pos ⟨h, by omega⟩, dif_pos h, v8_at]
    exact congrArg (fun r => val P r n) (Fin.ext (by show _ * 2048 + _ = 2048 * _ + _; omega))
  · rw [dif_neg fun g => h g.1, dif_neg h]
    exact z

/-- The padded row read `e` rows on, `d = 2 - e` rows before. -/
theorem prev_at (r : Fin 32768) (n : Fin 1024) (d e : ℕ) (h : e + d = 2) (b : Fin 16) (s : Fin 2050) (hb : b.val = r.val / 2048)
    (hs : s.val = e + r.val % 2048) : (val_main_v10 (F := Ideal) P (ix3 b s n) : EReal) = prev P r d n := by
  rw [pad_at]
  unfold prev
  by_cases g : d ≤ r.val % 2048
  · rw [dif_pos (by omega), if_pos g]
    exact congrArg (fun r => val P r n) (Fin.ext (by show 2048 * _ + _ = _ - _; omega))
  · rw [dif_neg (by omega), if_neg g]

theorem prev_zero (r : Fin 32768) (n : Fin 1024) : prev P r 0 n = val P r n := if_pos (Nat.zero_le _)

theorem v32_at (r : Fin 32768) (n : Fin 1024) : (val_main_v32 (F := Ideal) P C (ix2 r n) : EReal) = convRow P C r n := by
  unfold convRow conv
  pointwise [val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v4, val_main_v0]
  rw [prev_at P r n 2 0 rfl _ _ rfl (Nat.zero_add _).symm, prev_at P r n 1 1 rfl _ _ rfl rfl, prev_at P r n 0 2 rfl _ _ rfl rfl, prev_zero]

theorem v50_at (r : Fin 32768) (n : Fin 1024) : (val_main_v50 (F := Ideal) P O N (ix2 r n) : EReal) = headRow P O N r n := by
  unfold headRow heads headUnit sigm
  pointwise [val_main_v0, val_main_v7, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_cst, val_main_cst_0, val_main_cst_1, val_main_call1_v0, val_main_call1_v1, val_main_call1_cst, val_main_call1_v2, val_main_call1_v3, val_main_call1_cst_0, val_main_call1_v4, val_main_call1_v5]
  have e : (⟨128 * (n.val / 128) + n.val % 128, by omega⟩ : Fin 1024) = n := Fin.ext (Nat.div_add_mod _ _)
  simp only [e, Nat.mul_comm (n.val / 128) 128]

theorem v83_at (r : Fin 32768) (j : Fin 2048) :
    (val_main_v83 (F := Ideal) P O Y C N B (ix2 r j) : EReal) = mergeRow P O Y C N B r j := by
  unfold mergeRow merge sigm
  pointwise [val_main_v0, val_main_v1, val_main_v2, val_main_v3, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_cst_2, val_main_cst_3, val_main_cst_4, val_main_cst_5, val_main_cst_6, val_main_cst_7]
  simp only [v32_at, v50_at]

theorem v87_at (r : Fin 32768) (n : Fin 2048) :
    (val_main_v87 (F := Ideal) P O Y H C N B W (ix2 r n) : EReal) = stream P O Y H C N B W r n := by
  unfold stream
  pointwise [val_main_v84, val_main_v85, val_main_v86, val_main_v87]
  simp only [v83_at]

theorem v103_at (r : Fin 32768) (n : Fin 2048) :
    (val_main_v103 (F := Ideal) P O Y H C N B W G (ix2 r n) : EReal) = normed P O Y H C N B W G r n := by
  unfold normed rms irms
  pointwise [val_main_v88, val_main_v89, val_main_v90, val_main_v91, val_main_v92, val_main_v93, val_main_v94, val_main_v95, val_main_v96, val_main_v97, val_main_v98, val_main_v99, val_main_v100, val_main_v101, val_main_v102, val_main_v103, val_main_cst_8, val_main_cst_9, val_main_cst_10]
  simp only [v87_at]

end Cert.Mix

end
-- ==== Proof.Mix.Blocks.lean ====
/- The branches' readouts and their merge: the blocks of the arrays and the arrays after the run. -/
module

public import proofs.«01_k».proof.Proof.Mix.Merge
public import proofs.«01_k».proof.Proof.Mix.Ref
public import proofs.«01_k».proof.Proof.Gen.Kernel4Ideal.Value

@[expose] public section

set_option maxRecDepth 16384

noncomputable section

namespace Cert.Mix

open Idealize.ShloMosaic Idealize.ShloMosaic.TcCoe Idealize.SL.Sem
open Cert.Kernel4Ideal Cert.Kernel4Ideal.Gen Cert.Rms

theorem idx : ∀ t : Fin cfg0.N, win0_0.index t = ![t.val, 6] ∧ win0_1.index t = ![t.val, 7] ∧ win0_2.index t = ![t.val, 8] ∧ win0_3.index t = ![32 * t.val - 1, 7] ∧ win0_4.index t =
    ![32 * t.val - 1, 8] ∧ win0_5.index t = ![0, 0] ∧ win0_6.index t = ![t.val, 0] ∧ win0_7.index t = ![t.val, 11] ∧ win0_8.index t = ![0, 0] ∧
    win0_9.index t = ![t.val, 0] ∧ win0_10.index t = ![t.val, 0] ∧ win0_11.index t = ![t.val, 1] ∧ win0_12.index t = ![t.val, 2] ∧ win0_13.index t =
    ![t.val, 0] ∧ win0_14.index t = ![0, 0, 0, 0] ∧ win0_15.index t = ![0, 0, 0] ∧ win0_16.index t = ![0, 0] ∧ win0_17.index t = ![t.val, 0] ∧
    win0_18.index t = ![t.val, 0] := (by decide +kernel : ∀ t : Fin grid0.N, _)

theorem coord : ∀ t : Fin cfg0.N, (grid0.coords t 0).val = t.val := (by decide +kernel : ∀ t : Fin grid0.N, _)

variable (m : (ℓ : Loc nD τ sig) → Buf (Elt Ideal) ℓ) (c : Dev nD)

abbrev aP : S32768x15360.Idx → EReal := m ((c.tc : Thread nD τ).loc main_arg0)
abbrev aO : S32768x1024.Idx → EReal := m ((c.tc : Thread nD τ).loc main_arg1)
abbrev aY : S32768x1024.Idx → EReal := m ((c.tc : Thread nD τ).loc main_arg2)
abbrev aH : S32768x2048.Idx → EReal := m ((c.tc : Thread nD τ).loc main_arg3)
abbrev aC : S3x1024.Idx → EReal := m ((c.tc : Thread nD τ).loc main_arg4)
abbrev aN : S128.Idx → EReal := m ((c.tc : Thread nD τ).loc main_arg5)
abbrev aB : S2x3x1024x2048.Idx → EReal := m ((c.tc : Thread nD τ).loc main_arg6)
abbrev aW : S2x2048x2048.Idx → EReal := m ((c.tc : Thread nD τ).loc main_arg7)
abbrev aG : S2x2048.Idx → EReal := m ((c.tc : Thread nD τ).loc main_arg8)

theorem v0_eq (i : S2x3x1024x2048.Idx) : (V m c main_v0 : S2x3x1024x2048.Idx → EReal) i = aB m c i := by
  entry_read
  rfl

theorem v1_eq (i : S2x2048x2048.Idx) : (V m c main_v1 : S2x2048x2048.Idx → EReal) i = aW m c i := by
  entry_read
  rfl

theorem v4_eq (d : Fin 2048) : (V m c main_v4 : S1x2048.Idx → EReal) (ix2 0 d) = aG m c (ix2 0 d) := by
  entry_read
  pointwise []

theorem v5_eq (d : Fin 128) : (V m c main_v5 : S1x128.Idx → EReal) (ix2 0 d) = aN m c (ix1 d) := by
  entry_read
  pointwise []

section Blocks

variable (t : Fin cfg0.N) (a : Fin 256) (r : Fin 32768) (hr : r.val = 256 * t.val + a.val)

include hr

theorem cb_eq (k : Fin 1024) : (iblk m c 0 t (ix2 a k) : EReal) = aP m c (ix2 r ⟨6144 + k.val, by omega⟩) := by
  blk_point [iblk, idx t]

theorem cc_eq (k : Fin 1024) : (iblk m c 1 t (ix2 a k) : EReal) = aP m c (ix2 r ⟨7168 + k.val, by omega⟩) := by
  blk_point [iblk, idx t]

theorem ch_eq (k : Fin 1024) : (iblk m c 2 t (ix2 a k) : EReal) = aP m c (ix2 r ⟨8192 + k.val, by omega⟩) := by
  blk_point [iblk, idx t]

theorem o_eq (k : Fin 1024) : (iblk m c 6 t (ix2 a k) : EReal) = aO m c (ix2 r k) := by
  blk_point [iblk, idx t]

theorem hg_eq (k : Fin 1024) : (iblk m c 7 t (ix2 a k) : EReal) = aP m c (ix2 r ⟨11264 + k.val, by omega⟩) := by
  blk_point [iblk, idx t]

theorem y_eq (k : Fin 1024) : (iblk m c 9 t (ix2 a k) : EReal) = aY m c (ix2 r k) := by
  blk_point [iblk, idx t]

theorem gc_eq (k : Fin 2048) : (X0_10 m c t (ix2 a k) : EReal) = aP m c (ix2 r ⟨k.val, by omega⟩) := by
  unfold X0_10 Pipeline.Window.fill
  rw [dif_pos (moved0_10 t _)]
  blk_point [iblk, idx t]

theorem gh_eq (k : Fin 2048) : (X0_11 m c t (ix2 a k) : EReal) = aP m c (ix2 r ⟨2048 + k.val, by omega⟩) := by
  unfold X0_11 Pipeline.Window.fill
  rw [dif_pos (moved0_11 t _)]
  blk_point [iblk, idx t]

theorem ga_eq (k : Fin 2048) : (X0_12 m c t (ix2 a k) : EReal) = aP m c (ix2 r ⟨4096 + k.val, by omega⟩) := by
  unfold X0_12 Pipeline.Window.fill
  rw [dif_pos (moved0_12 t _)]
  blk_point [iblk, idx t]

theorem h_eq (k : Fin 2048) : (iblk m c 13 t (ix2 a k) : EReal) = aH m c (ix2 r k) := by
  blk_point [iblk, idx t]

end Blocks

section Whole

variable (t : Fin cfg0.N)

theorem cw_eq (b : Fin 3) (k : Fin 1024) : (iblk m c 5 t (ix2 b k) : EReal) = aC m c (ix2 b k) := by
  blk_point [iblk, idx t]

theorem n_eq (e : Fin 128) : (iblk m c 8 t (ix2 0 e) : EReal) = aN m c (ix1 e) := by
  refine Eq.trans ?_ (v5_eq m c e)
  blk_point [iblk, idx t]

theorem wb_eq (b : Fin 3) (k : Fin 1024) (n : Fin 2048) : (iblk m c 14 t (ix4 0 b k n) : EReal) = aB m c (ix4 0 b k n) := by
  refine Eq.trans ?_ (v0_eq m c (ix4 0 b k n))
  blk_point [iblk, idx t]

theorem wo_eq (j n : Fin 2048) : (iblk m c 15 t (ix3 0 j n) : EReal) = aW m c (ix3 0 j n) := by
  refine Eq.trans ?_ (v1_eq m c (ix3 0 j n))
  blk_point [iblk, idx t]

theorem g_eq (d : Fin 2048) : (iblk m c 16 t (ix2 0 d) : EReal) = aG m c (ix2 0 d) := by
  refine Eq.trans ?_ (v4_eq m c d)
  blk_point [iblk, idx t]

/-- The rows before the tile: those of the block before, zero where the tile begins a sequence. -/
theorem ccp_eq (a : Fin 8) (r : Fin 32768) (ht : 1 ≤ t.val) (hr : r.val + 8 = 256 * t.val + a.val) (k : Fin 1024) :
    (iblk m c 3 t (ix2 a k) : EReal) = aP m c (ix2 r ⟨7168 + k.val, by omega⟩) := by
  blk_point [iblk, idx t]

theorem chp_eq (a : Fin 8) (r : Fin 32768) (ht : 1 ≤ t.val) (hr : r.val + 8 = 256 * t.val + a.val) (k : Fin 1024) :
    (iblk m c 4 t (ix2 a k) : EReal) = aP m c (ix2 r ⟨8192 + k.val, by omega⟩) := by
  blk_point [iblk, idx t]

end Whole

end Cert.Mix

end
-- ==== Proof.Mix.Array.lean ====
/- The branches' readouts and their merge: the arrays after the run. -/
module

public import proofs.«01_k».proof.Proof.Mix.Blocks

@[expose] public section

set_option maxRecDepth 16384

noncomputable section

namespace Cert.Mix

open Idealize.ShloMosaic Idealize.ShloMosaic.TcCoe Idealize.SL.Sem
open Cert.Kernel4Ideal Cert.Kernel4Ideal.Gen Cert.Rms

variable (m : (ℓ : Loc nD τ sig) → Buf (Elt Ideal) ℓ) (c : Dev nD)

section Tile

variable (t : Fin cfg0.N)

/-- The value at a row before the tile's first. -/
theorem halo_eq (a : Fin 8) (r : Fin 32768) (d e : ℕ) (hr : r.val = 256 * t.val + e) (ha : a.val + d = 8 + e) (he : e < d) (hd : d ≤ 8) (n : Fin 1024) :
    halo (grid0.coords t 0).val (iblk m c 3 t) (iblk m c 4 t) a n = prev (aP m c) r d n := by
  unfold halo prev
  rw [coord]
  by_cases h : t.val % 8 = 0
  · rw [if_pos h, if_neg (by omega)]
  · rw [if_neg h, if_pos (by omega)]
    exact congrArg₂ (fun u v : EReal => u * v) (ccp_eq m c t a ⟨r.val - d, by omega⟩ (by omega) (by show _ - _ + _ = _; omega) n)
      (chp_eq m c t a ⟨r.val - d, by omega⟩ (by omega) (by show _ - _ + _ = _; omega) n)

/-- The value at an earlier row of the tile. -/
theorem inner_eq (a : Fin 256) (r : Fin 32768) (hr : r.val = 256 * t.val + a.val) (d : ℕ) (hd : d ≤ a.val) (n : Fin 1024) :
    (fun u v : EReal => u * v) (iblk m c 1 t (ix2 ⟨a.val - d, by omega⟩ n)) (iblk m c 2 t (ix2 ⟨a.val - d, by omega⟩ n)) = prev (aP m c) r d n := by
  unfold prev
  rw [if_pos (by omega)]
  exact congrArg₂ (fun u v : EReal => u * v) (cc_eq m c t _ ⟨r.val - d, by omega⟩ (by show _ - _ = _ + (_ - _); omega) n)
    (ch_eq m c t _ ⟨r.val - d, by omega⟩ (by show _ - _ = _ + (_ - _); omega) n)

variable (a : Fin 256) (r : Fin 32768) (hr : r.val = 256 * t.val + a.val)

include hr

theorem back1_eq (n : Fin 1024) :
    back1 (grid0.coords t 0).val (iblk m c 1 t) (iblk m c 2 t) (iblk m c 3 t) (iblk m c 4 t) a n = prev (aP m c) r 1 n := by
  unfold back1
  by_cases h : 1 ≤ a.val
  · rw [dif_pos h]
    exact inner_eq m c t a r hr 1 h n
  · rw [dif_neg h]
    exact halo_eq m c t 7 r 1 0 (by omega) rfl (by omega) (by omega) n

theorem back2_eq (n : Fin 1024) :
    back2 (grid0.coords t 0).val (iblk m c 1 t) (iblk m c 2 t) (iblk m c 3 t) (iblk m c 4 t) a n = prev (aP m c) r 2 n := by
  unfold back2
  by_cases h : 2 ≤ a.val
  · rw [dif_pos h]
    exact inner_eq m c t a r hr 2 h n
  · rw [dif_neg h]
    by_cases h1 : a.val = 1
    · rw [if_pos h1]
      exact halo_eq m c t 7 r 2 1 (by omega) rfl (by omega) (by omega) n
    · rw [if_neg h1]
      exact halo_eq m c t 6 r 2 0 (by omega) rfl (by omega) (by omega) n

/-- What a grid point leaves in the stream's block. -/
theorem stream_at (n : Fin 2048) :
    ((outsAt0 (F := Ideal) m c t).1 (ix2 a n) : EReal) = stream (aP m c) (aO m c) (aY m c) (aH m c) (aC m c) (aN m c) (aB m c) (aW m c) r n := by
  unfold outsAt0
  frame_out
  refine (pay31_at _ _ _ _ _ _ _ _ _ _ _ a n).trans ?_
  unfold stream mergeRow
  refine congrArg₂ (fun u v : EReal => u + v) (h_eq m c t a r hr n) (Finset.sum_congr rfl fun j _ =>
    congrArg₂ (fun u v : EReal => u * v) (merge_congr (gc_eq m c t a r hr j) (gh_eq m c t a r hr j) (ga_eq m c t a r hr j) (fun k => ?_) (fun k => ?_)
      (y_eq m c t a r hr) (fun k => ?_) (fun k => ?_) (fun k => ?_)) (wo_eq m c t j n))
  · refine (pay7_at _ _ _ _ _ _ _ a k).trans ?_
    exact conv_congr (cb_eq m c t a r hr k) (back2_eq m c t a r hr k) (back1_eq m c t a r hr k)
      (congrArg₂ (fun u v : EReal => u * v) (cc_eq m c t a r hr k) (ch_eq m c t a r hr k)) (cw_eq m c t 0 k) (cw_eq m c t 1 k) (cw_eq m c t 2 k)
  · refine (pay28_at _ _ _ a k).trans ?_
    exact heads_congr k (o_eq m c t a r hr) (n_eq m c t) (hg_eq m c t a r hr)
  · refine Eq.trans ?_ (wb_eq m c t 0 k j)
    pointwise []
  · refine Eq.trans ?_ (wb_eq m c t 1 k j)
    pointwise []
  · refine Eq.trans ?_ (wb_eq m c t 2 k j)
    pointwise []

/-- What a grid point leaves in the normalised stream's block. -/
theorem normed_at (n : Fin 2048) : ((outsAt0 (F := Ideal) m c t).2 (ix2 a n) : EReal)
    = normed (aP m c) (aO m c) (aY m c) (aH m c) (aC m c) (aN m c) (aB m c) (aW m c) (aG m c) r n := by
  have h : (outsAt0 (F := Ideal) m c t).2 = k0_pay1 (outsAt0 (F := Ideal) m c t).1 (iblk m c 16 t) := by
    unfold outsAt0
    frame_out
  rw [h]
  exact (pay1_at _ _ a n).trans (rms_congr n (stream_at m c t a r hr) (g_eq m c t n))

end Tile

/-- The stream after the run. -/
theorem final17 : (dats m 0 c).arrAt 17 cfg0.N
    = fun i : S32768x2048.Idx => stream (aP m c) (aO m c) (aY m c) (aH m c) (aC m c) (aN m c) (aB m c) (aW m c) (i 0) (i 1) := by
  refine (dats m 0 c).arrAt_eq_of_covers 17 _ (by decide +kernel) fun t _ y => ?_
  have ht : t.val < 128 := lt_of_lt_of_eq t.isLt N_0
  blk_simp
  have hy0 : (y 0).val < 256 := (y 0).isLt
  have hy1 : (y 1).val < 2048 := (y 1).isLt
  have e0 : (⟨256 * t.val + (y 0).val, by omega⟩ : Fin 32768) = (win0_17.blk t).view.emb y 0 :=
    Fin.ext (by blk_simp [idx t]; show 256 * t.val + (y 0).val = _; omega)
  have e1 : (y 1 : Fin 2048) = (win0_17.blk t).view.emb y 1 := Fin.ext (by blk_simp [idx t]; try omega)
  rw [after0_17, ← e0, ← e1]
  have hyy : y = ix2 (y 0) (y 1) := by funext a; match a with | ⟨0, _⟩ => rfl | ⟨1, _⟩ => rfl
  exact Eq.trans (congrArg _ hyy) (stream_at m c t (y 0) ⟨256 * t.val + (y 0).val, by omega⟩ rfl (y 1))

/-- The normalised stream after the run. -/
theorem final18 : (dats m 0 c).arrAt 18 cfg0.N
    = fun i : S32768x2048.Idx => normed (aP m c) (aO m c) (aY m c) (aH m c) (aC m c) (aN m c) (aB m c) (aW m c) (aG m c) (i 0) (i 1) := by
  refine (dats m 0 c).arrAt_eq_of_covers 18 _ (by decide +kernel) fun t _ y => ?_
  have ht : t.val < 128 := lt_of_lt_of_eq t.isLt N_0
  blk_simp
  have hy0 : (y 0).val < 256 := (y 0).isLt
  have hy1 : (y 1).val < 2048 := (y 1).isLt
  have e0 : (⟨256 * t.val + (y 0).val, by omega⟩ : Fin 32768) = (win0_18.blk t).view.emb y 0 :=
    Fin.ext (by blk_simp [idx t]; show 256 * t.val + (y 0).val = _; omega)
  have e1 : (y 1 : Fin 2048) = (win0_18.blk t).view.emb y 1 := Fin.ext (by blk_simp [idx t]; try omega)
  rw [after0_18, ← e0, ← e1]
  have hyy : y = ix2 (y 0) (y 1) := by funext a; match a with | ⟨0, _⟩ => rfl | ⟨1, _⟩ => rfl
  exact Eq.trans (congrArg _ hyy) (normed_at m c t (y 0) ⟨256 * t.val + (y 0).val, by omega⟩ rfl (y 1))

end Cert.Mix

end
-- ==== Proof.Mix.Algebraic.lean ====
/- The branches' readouts and their merge: the kernel's program and the reference's end with equal results. -/
module

public import proofs.«01_k».proof.Defs
public import proofs.«01_k».proof.Proof.Mix.Array
public import proofs.«01_k».proof.Proof.Gen.Reference4Ideal.Run

@[expose] public section

set_option maxRecDepth 16384

noncomputable section

namespace Cert.Mix

open Idealize.ShloMosaic Idealize.ShloMosaic.TcCoe Idealize.SL.Sem

/-- The merge kernel's two results are the reference's. -/
theorem algebraic : Cert.algebraic_Kernel4Ideal_Reference4Ideal (hKernel4Ideal := Cert.Kernel4Ideal.Gen.facts)
      (hReference4Ideal := Cert.Reference4Ideal.Gen.facts) := by
  pair_intro
  · run_from Cert.Kernel4Ideal.Value.run_blocks m g
  · run_from Cert.Reference4Ideal.Value.run m' g'
    all_goals obtain ⟨h0, h1, h2, h3, h4, h5, h6, h7, h8⟩ := hagree c
    · rw [Cert.Reference4Ideal.Read.val_main_v87_eq, h0, h1, h2, h3, h4, h5, h6, h7]
      refine Eq.trans ?_ (final17 m c).symm
      refine funext fun i => ?_
      have hi : i = ix2 (i 0) (i 1) := by funext a; match a with | ⟨0, _⟩ => rfl | ⟨1, _⟩ => rfl
      exact (congrArg (Cert.Reference4Ideal.Read.val_main_v87 (F := Ideal) (aP m c) (aO m c) (aY m c) (aH m c) (aC m c) (aN m c) (aB m c) (aW m c)) hi).trans (v87_at (aP m c) (aO m c) (aY m c) (aH m c) (aC m c) (aN m c) (aB m c) (aW m c) (i 0) (i 1))
    · rw [Cert.Reference4Ideal.Read.val_main_v103_eq, h0, h1, h2, h3, h4, h5, h6, h7, h8]
      refine Eq.trans ?_ (final18 m c).symm
      refine funext fun i => ?_
      have hi : i = ix2 (i 0) (i 1) := by funext a; match a with | ⟨0, _⟩ => rfl | ⟨1, _⟩ => rfl
      exact (congrArg (Cert.Reference4Ideal.Read.val_main_v103 (F := Ideal) (aP m c) (aO m c) (aY m c) (aH m c) (aC m c) (aN m c) (aB m c) (aW m c) (aG m c)) hi).trans (v103_at (aP m c) (aO m c) (aY m c) (aH m c) (aC m c) (aN m c) (aB m c) (aW m c) (aG m c) (i 0) (i 1))

end Cert.Mix

end
-- ==== Proof.Ple.Block.lean ====
/- The gated per-layer embedding: what one grid point computes. -/
module

public import proofs.«01_k».proof.Proof.Gen.Kernel5Ideal.Value
public import proofs.«01_k».proof.Proof.Rms
public import Idealize.ShloMosaic.Lib.Pipeline.ValueKit

@[expose] public section

set_option maxRecDepth 16384

noncomputable section

namespace Cert.Ple

open Idealize.ShloMosaic Idealize.ShloMosaic.TcCoe Idealize.SL.Sem
open Cert.Kernel5Ideal Cert.Kernel5Ideal.Gen Cert.Rms

/-- The gated embedding added to a row `x`, at one column: `w` and `e` are that column of the gate's weights and of the
    embedding's. -/
def gated (x g w : Fin 2048 → EReal) (p e : Fin 256 → EReal) : EReal :=
  sigm (∑ d : Fin 2048, rms x (g d) d * w d) * ∑ k : Fin 256, p k * e k

theorem gated_congr {x x' g g' w w' : Fin 2048 → EReal} {p p' e e' : Fin 256 → EReal} (hx : ∀ d, x d = x' d) (hg : ∀ d, g d = g' d)
    (hw : ∀ d, w d = w' d) (hp : ∀ k, p k = p' k) (he : ∀ k, e k = e' k) : gated x g w p e = gated x' g' w' p' e' := by
  rw [funext hx, funext hg, funext hw, funext hp, funext he]

theorem pay2_at (x0 : Vec Ideal S512x2048 .f32) (x1 : Vec Ideal S512x2048 .bf16) (a : Fin 512) (n : Fin 2048) :
    (k0_pay2 (F := Ideal) x0 x1 (ix2 a n) : EReal) = x0 (ix2 a n) + x1 (ix2 a n) := by
  pointwise [k0_pay2]

theorem pay3_at (x0 : Vec Ideal S512x2048 .f32) (x1 : Vec Ideal S512x2048 .bf16) (x2 : Vec Ideal S1x2048 .f32) (x3 : Vec Ideal S1x2048x2048 .bf16)
    (x4 : Vec Ideal S1x512x256 .f32) (x5 : Vec Ideal S1x256x2048 .bf16) (a : Fin 512) (n : Fin 2048) :
    (k0_pay3 (F := Ideal) x0 x1 x2 x3 x4 x5 (ix2 a n) : EReal)
      = gated (fun d => x0 (ix2 a d) + x1 (ix2 a d)) (fun d => x2 (ix2 0 d)) (fun d => x3 (ix3 0 d n)) (fun k => x4 (ix3 0 a k)) (fun k => x5 (ix3 0 k n)) := by
  unfold gated sigm rms irms
  pointwise [k0_pay3, k0_pay2]
  rw [zero_sub]

theorem pay1_at (x y : Vec Ideal S512x2048 .f32) (g : Vec Ideal S1x2048 .f32) (a : Fin 512) (n : Fin 2048) :
    (k0_pay1 (F := Ideal) x y g (ix2 a n) : EReal) = rms (fun d => x (ix2 a d) + y (ix2 a d)) (g (ix2 0 n)) n := by
  unfold rms irms
  pointwise [k0_pay1]

/-- Element `(a, n)` of the output block, from the input blocks. -/
theorem out_at (x0 : Vec Ideal S512x2048 .f32) (x1 : Vec Ideal S512x2048 .bf16) (x2 : Vec Ideal S1x2048 .f32) (x3 : Vec Ideal S1x2048x2048 .bf16)
    (x4 : Vec Ideal S1x512x256 .f32) (x5 : Vec Ideal S1x256x2048 .bf16) (x6 : Vec Ideal S1x2048 .f32) (a : Fin 512) (n : Fin 2048) :
    (out0_7 (F := Ideal) x0 x1 x2 x3 x4 x5 x6 (ix2 a n) : EReal)
      = rms (fun n' => (x0 (ix2 a n') + x1 (ix2 a n'))
          + gated (fun d => x0 (ix2 a d) + x1 (ix2 a d)) (fun d => x2 (ix2 0 d)) (fun d => x3 (ix3 0 d n')) (fun k => x4 (ix3 0 a k)) (fun k => x5 (ix3 0 k n')))
          (x6 (ix2 0 n)) n := by
  have h : out0_7 (F := Ideal) x0 x1 x2 x3 x4 x5 x6 = k0_pay1 (k0_pay2 x0 x1) (k0_pay3 x0 x1 x2 x3 x4 x5) x6 := by
    unfold out0_7
    frame_out
  rw [h]
  exact (pay1_at _ _ _ a n).trans (rms_congr n (fun n' => congrArg₂ (fun u v : EReal => u + v) (pay2_at x0 x1 a n') (pay3_at x0 x1 x2 x3 x4 x5 a n')) rfl)

end Cert.Ple

end
-- ==== Proof.Ple.Ref.lean ====
/- The gated per-layer embedding: what the reference computes. -/
module

public import proofs.«01_k».proof.Proof.Ple.Block
public import proofs.«01_k».proof.Proof.Gen.Reference5Ideal.Read

@[expose] public section

set_option maxRecDepth 16384

noncomputable section

namespace Cert.Ple

open Idealize.ShloMosaic Idealize.ShloMosaic.TcCoe Idealize.SL.Sem
open Cert.Reference5Ideal Cert.Reference5Ideal.Gen Cert.Reference5Ideal.Read Cert.Rms

variable (H : S32768x2048.Idx → EReal) (Y : S32768x2048.Idx → EReal) (G : S2x2048.Idx → EReal) (W : S2x2048x2048.Idx → EReal)
  (P : S2x16x2048x256.Idx → EReal) (E : S2x256x2048.Idx → EReal) (GF : S2048.Idx → EReal)

/-- A row of the residual stream with the feed-forward's part. -/
def row (r : Fin 32768) (d : Fin 2048) : EReal := H (ix2 r d) + Y (ix2 r d)

/-- That row with the gated embedding of the second layer. -/
def row' (r : Fin 32768) (n : Fin 2048) : EReal :=
  row H Y r n + gated (row H Y r) (fun d => G (ix2 1 d)) (fun d => W (ix3 1 d n))
    (fun k => P (ix4 1 ⟨r.val / 2048, by omega⟩ ⟨r.val % 2048, by omega⟩ k)) (fun k => E (ix3 1 k n))

/-- An element of the result: the row normalised. -/
def ple (r : Fin 32768) (n : Fin 2048) : EReal := rms (row' H Y G W P E r) (GF (ix1 n)) n

theorem v1_at (r : Fin 32768) (d : Fin 2048) : (val_main_v1 (F := Ideal) H Y (ix2 r d) : EReal) = row H Y r d := by
  unfold row
  pointwise [val_main_v1, val_main_v0]

theorem v16_at (r : Fin 32768) (d : Fin 2048) : (val_main_v16 (F := Ideal) H Y G (ix2 r d) : EReal) = rms (row H Y r) (G (ix2 1 d)) d := by
  unfold rms irms row
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v31_at (r : Fin 32768) (n : Fin 2048) :
    (val_main_v31 (F := Ideal) P E (ix2 r n) : EReal) = ∑ k : Fin 256, P (ix4 1 ⟨r.val / 2048, by omega⟩ ⟨r.val % 2048, by omega⟩ k) * E (ix3 1 k n) := by
  pointwise [val_main_v31, val_main_v30, val_main_v29, val_main_v28, val_main_v27, val_main_v26]

theorem v25_at (r : Fin 32768) (n : Fin 2048) :
    (val_main_v25 (F := Ideal) H Y G W (ix2 r n) : EReal) = sigm (∑ d : Fin 2048, rms (row H Y r) (G (ix2 1 d)) d * W (ix3 1 d n)) := by
  unfold sigm
  pointwise [val_main_v25, val_main_v24, val_main_v23, val_main_v22, val_main_v21, val_main_v20, val_main_v19, val_main_v18, val_main_v17, val_main_cst_2, val_main_cst_3]
  simp only [v16_at]

theorem v33_at (r : Fin 32768) (n : Fin 2048) : (val_main_v33 (F := Ideal) H Y G W P E (ix2 r n) : EReal) = row' H Y G W P E r n :=
  congrArg₂ (fun u v : EReal => u + v) (v1_at H Y r n) (congrArg₂ (fun u v : EReal => u * v) (v25_at H Y G W r n) (v31_at P E r n))

theorem ref_at (r : Fin 32768) (n : Fin 2048) : (val_main_v46 (F := Ideal) H Y G W P E GF (ix2 r n) : EReal) = ple H Y G W P E GF r n := by
  unfold ple rms irms
  pointwise [val_main_v46, val_main_v45, val_main_v44, val_main_v43, val_main_v42, val_main_v41, val_main_v40, val_main_v39, val_main_v38, val_main_v37, val_main_v36, val_main_v35, val_main_v34, val_main_cst_4, val_main_cst_5, val_main_cst_6]
  simp only [v33_at]

end Cert.Ple

end
-- ==== Proof.Ple.Array.lean ====
/- The gated per-layer embedding: the array after the run. -/
module

public import proofs.«01_k».proof.Proof.Ple.Ref

@[expose] public section

set_option maxRecDepth 16384

noncomputable section

namespace Cert.Ple

open Idealize.ShloMosaic Idealize.ShloMosaic.TcCoe Idealize.SL.Sem
open Cert.Kernel5Ideal Cert.Kernel5Ideal.Gen Cert.Rms

theorem idx : ∀ t : Fin cfg0.N, win0_0.index t = ![t.val, 0] ∧ win0_1.index t = ![t.val, 0] ∧ win0_2.index t = ![0, 0]
    ∧ win0_3.index t = ![1, 0, 0] ∧ win0_4.index t = ![1, t.val, 0] ∧ win0_5.index t = ![1, 0, 0] ∧ win0_6.index t = ![0, 0]
    ∧ win0_7.index t = ![t.val, 0] := (by decide +kernel : ∀ t : Fin grid0.N, _)

variable (m : (ℓ : Loc nD τ sig) → Buf (Elt Ideal) ℓ) (c : Dev nD)

abbrev aH : S32768x2048.Idx → EReal := m ((c.tc : Thread nD τ).loc main_arg0)
abbrev aY : S32768x2048.Idx → EReal := m ((c.tc : Thread nD τ).loc main_arg1)
abbrev aG : S2x2048.Idx → EReal := m ((c.tc : Thread nD τ).loc main_arg2)
abbrev aW : S2x2048x2048.Idx → EReal := m ((c.tc : Thread nD τ).loc main_arg3)
abbrev aP : S2x16x2048x256.Idx → EReal := m ((c.tc : Thread nD τ).loc main_arg4)
abbrev aE : S2x256x2048.Idx → EReal := m ((c.tc : Thread nD τ).loc main_arg5)
abbrev aF : S2048.Idx → EReal := m ((c.tc : Thread nD τ).loc main_arg6)

theorem v0_eq (r : Fin 32768) (k : Fin 256) : (V m c main_v0 : S2x32768x256.Idx → EReal) (ix3 1 r k)
    = aP m c (ix4 1 ⟨r.val / 2048, by omega⟩ ⟨r.val % 2048, by omega⟩ k) := by
  entry_read
  pointwise []

theorem v3_eq (d : Fin 2048) : (V m c main_v3 : S1x2048.Idx → EReal) (ix2 0 d) = aG m c (ix2 1 d) := by
  entry_read
  pointwise []

theorem v4_eq (i : S2x2048x2048.Idx) : (V m c main_v4 : S2x2048x2048.Idx → EReal) i = aW m c i := by
  entry_read
  rfl

theorem v5_eq (i : S2x256x2048.Idx) : (V m c main_v5 : S2x256x2048.Idx → EReal) i = aE m c i := by
  entry_read
  rfl

theorem v6_eq (d : Fin 2048) : (V m c main_v6 : S1x2048.Idx → EReal) (ix2 0 d) = aF m c (ix1 d) := by
  entry_read
  pointwise []

theorem h_eq (t : Fin cfg0.N) (a : Fin 512) (r : Fin 32768) (hr : r.val = 512 * t.val + a.val) (d : Fin 2048) :
    (iblk m c 0 t (ix2 a d) : EReal) = aH m c (ix2 r d) := by
  blk_point [iblk, idx t]

theorem y_eq (t : Fin cfg0.N) (a : Fin 512) (r : Fin 32768) (hr : r.val = 512 * t.val + a.val) (d : Fin 2048) :
    (iblk m c 1 t (ix2 a d) : EReal) = aY m c (ix2 r d) := by
  blk_point [iblk, idx t]

theorem g_eq (t : Fin cfg0.N) (d : Fin 2048) : (iblk m c 2 t (ix2 0 d) : EReal) = aG m c (ix2 1 d) := by
  refine Eq.trans ?_ (v3_eq m c d)
  blk_point [iblk, idx t]

theorem w_eq (t : Fin cfg0.N) (d n : Fin 2048) : (iblk m c 3 t (ix3 0 d n) : EReal) = aW m c (ix3 1 d n) := by
  refine Eq.trans ?_ (v4_eq m c (ix3 1 d n))
  blk_point [iblk, idx t]

theorem p_eq (t : Fin cfg0.N) (a : Fin 512) (r : Fin 32768) (hr : r.val = 512 * t.val + a.val) (k : Fin 256) :
    (iblk m c 4 t (ix3 0 a k) : EReal) = aP m c (ix4 1 ⟨r.val / 2048, by omega⟩ ⟨r.val % 2048, by omega⟩ k) := by
  refine Eq.trans ?_ (v0_eq m c r k)
  blk_point [iblk, idx t]

theorem e_eq (t : Fin cfg0.N) (k : Fin 256) (n : Fin 2048) : (iblk m c 5 t (ix3 0 k n) : EReal) = aE m c (ix3 1 k n) := by
  refine Eq.trans ?_ (v5_eq m c (ix3 1 k n))
  blk_point [iblk, idx t]

theorem f_eq (t : Fin cfg0.N) (d : Fin 2048) : (iblk m c 6 t (ix2 0 d) : EReal) = aF m c (ix1 d) := by
  refine Eq.trans ?_ (v6_eq m c d)
  blk_point [iblk, idx t]

/-- What a grid point leaves in the output's block. -/
theorem block_at (t : Fin cfg0.N) (a : Fin 512) (n : Fin 2048) (r : Fin 32768) (hr : r.val = 512 * t.val + a.val) :
    (out0_7 (F := Ideal) (iblk m c 0 t) (iblk m c 1 t) (iblk m c 2 t) (iblk m c 3 t) (iblk m c 4 t) (iblk m c 5 t) (iblk m c 6 t) (ix2 a n) : EReal)
      = ple (aH m c) (aY m c) (aG m c) (aW m c) (aP m c) (aE m c) (aF m c) r n := by
  have hrow : ∀ d : Fin 2048, (fun u v : EReal => u + v) (iblk m c 0 t (ix2 a d)) (iblk m c 1 t (ix2 a d)) = row (aH m c) (aY m c) r d := fun d =>
    congrArg₂ (fun u v : EReal => u + v) (h_eq m c t a r hr d) (y_eq m c t a r hr d)
  refine (out_at _ _ _ _ _ _ _ a n).trans (rms_congr n (fun n' => congrArg₂ (fun u v : EReal => u + v) (hrow n') ?_) (f_eq m c t n))
  exact gated_congr hrow (g_eq m c t) (fun d => w_eq m c t d n') (p_eq m c t a r hr) (fun k => e_eq m c t k n')

/-- The array after the run. -/
theorem final : (dats m 0 c).arrAt 7 cfg0.N
    = fun i : S32768x2048.Idx => ple (aH m c) (aY m c) (aG m c) (aW m c) (aP m c) (aE m c) (aF m c) (i 0) (i 1) := by
  refine (dats m 0 c).arrAt_eq_of_covers 7 _ (by decide +kernel) fun t _ y => ?_
  have ht : t.val < 64 := lt_of_lt_of_eq t.isLt N_0
  blk_simp
  have hy0 : (y 0).val < 512 := (y 0).isLt
  have hy1 : (y 1).val < 2048 := (y 1).isLt
  have e0 : (⟨512 * t.val + (y 0).val, by omega⟩ : Fin 32768) = (win0_7.blk t).view.emb y 0 :=
    Fin.ext (by blk_simp [idx t]; show 512 * t.val + (y 0).val = _; omega)
  have e1 : (y 1 : Fin 2048) = (win0_7.blk t).view.emb y 1 := Fin.ext (by blk_simp [idx t]; try omega)
  rw [after0_7, ← e0, ← e1]
  have hyy : y = ix2 (y 0) (y 1) := by funext a; match a with | ⟨0, _⟩ => rfl | ⟨1, _⟩ => rfl
  exact Eq.trans (congrArg _ hyy) (block_at m c t (y 0) (y 1) ⟨512 * t.val + (y 0).val, by omega⟩ rfl)

end Cert.Ple

end
-- ==== Proof.Ple.Algebraic.lean ====
/- The gated per-layer embedding: the kernel's program and the reference's end with equal results. -/
module

public import proofs.«01_k».proof.Defs
public import proofs.«01_k».proof.Proof.Ple.Array

@[expose] public section

set_option maxRecDepth 16384

noncomputable section

namespace Cert.Ple

open Idealize.ShloMosaic Idealize.ShloMosaic.TcCoe Idealize.SL.Sem

/-- The gated embedding kernel's result is the reference's. -/
theorem algebraic : Cert.algebraic_Kernel5Ideal_Reference5Ideal (hKernel5Ideal := Cert.Kernel5Ideal.Gen.facts)
      (hReference5Ideal := Cert.Reference5Ideal.Gen.facts) := by
  pair_intro
  · run_from Cert.Kernel5Ideal.Value.run_blocks m g
  · run_from Cert.Reference5Ideal.Value.run m' g'
    obtain ⟨h0, h1, h2, h3, h4, h5, h6⟩ := hagree c
    rw [Cert.Reference5Ideal.Read.val_main_v46_eq, h0, h1, h2, h3, h4, h5, h6]
    refine Eq.trans ?_ (final m c).symm
    refine funext fun i => ?_
    have hi : i = ix2 (i 0) (i 1) := by funext a; match a with | ⟨0, _⟩ => rfl | ⟨1, _⟩ => rfl
    exact (congrArg (Cert.Reference5Ideal.Read.val_main_v46 (F := Ideal) (aH m c) (aY m c) (aG m c) (aW m c) (aP m c) (aE m c) (aF m c)) hi).trans
      (ref_at (aH m c) (aY m c) (aG m c) (aW m c) (aP m c) (aE m c) (aF m c) (i 0) (i 1))

end Cert.Ple

end
-- ==== Proof.lean ====
/- The claims, put together from the modules that prove them. -/
module

public import proofs.«01_k».proof.Defs
public import proofs.«01_k».proof.Proof.Gen.Pre_finite_scores
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Proj.Frame
public import proofs.«01_k».proof.Proof.Proj.FrameIdeal
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Att.Algebraic
public import proofs.«01_k».proof.Proof.Ffn.Algebraic
public import proofs.«01_k».proof.Proof.Proj.Algebraic
public import proofs.«01_k».proof.Proof.Mix.Algebraic
public import proofs.«01_k».proof.Proof.Ple.Algebraic
public import Idealize.ShloMosaic.Lib.Claim

@[expose] public section

set_option maxRecDepth 16384

noncomputable section

namespace Cert.Proof

open Idealize.ShloMosaic Idealize.SL.Sem

/-- `ReferenceIdeal` runs, keeps its arguments and leaves no signal behind. -/
theorem frame_ReferenceIdeal : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- The same of inputs that meet the precondition. -/
theorem frame_ReferenceIdeal_pre : Cert.quiescent_ReferenceIdeal_pre_finite_scores (hReferenceIdeal := Cert.ReferenceIdeal.Gen.facts) (hPre_finite_scores := Cert.Pre_finite_scores.Gen.facts) :=
  fun m g _ => frame_ReferenceIdeal m g trivial

/-- `Reference2Ideal` runs, keeps its arguments and leaves no signal behind. -/
theorem frame_Reference2Ideal : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run m g)

/-- `Reference3Ideal` runs, keeps its arguments and leaves no signal behind. -/
theorem frame_Reference3Ideal : Cert.quiescent_Reference3Ideal (hReference3Ideal := Cert.Reference3Ideal.Gen.facts) := by
  intro m g _
  exact (θ_run Cert.Reference3Ideal.defs _ _).mono (fun r h => ⟨fun c => (h c).2.2, sem_eq_zero_of_no_sems (by decide) r.2⟩)
    (Cert.Reference3Ideal.Value.run m g)

/-- `Reference4Ideal` runs, keeps its arguments and leaves no signal behind. -/
theorem frame_Reference4Ideal : Cert.quiescent_Reference4Ideal (hReference4Ideal := Cert.Reference4Ideal.Gen.facts) := by
  intro m g _
  exact (θ_run Cert.Reference4Ideal.defs _ _).mono (fun r h => ⟨fun c => (h c).2.2, sem_eq_zero_of_no_sems (by decide) r.2⟩)
    (Cert.Reference4Ideal.Value.run m g)

/-- `Reference5Ideal` runs, keeps its arguments and leaves no signal behind. -/
theorem frame_Reference5Ideal : Cert.quiescent_Reference5Ideal (hReference5Ideal := Cert.Reference5Ideal.Gen.facts) := by
  intro m g _
  exact (θ_run Cert.Reference5Ideal.defs _ _).mono (fun r h => ⟨fun c => (h c).2, sem_eq_zero_of_no_sems (by decide) r.2⟩)
    (Cert.Reference5Ideal.Value.run m g)

/-- Everything the certificate claims. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Pre_finite_scores.Gen.facts,
  fun m g _ => Cert.Kernel.Gen.frame m g,
  fun m g _ => Cert.KernelIdeal.Gen.frame m g,
  fun m g _ => Cert.KernelIdeal.Gen.frame m g,
  frame_ReferenceIdeal,
  frame_ReferenceIdeal_pre,
  fun m g _ => Cert.Kernel2.Gen.frame m g,
  fun m g _ => Cert.Kernel2Ideal.Gen.frame m g,
  frame_Reference2Ideal,
  fun m g _ => Cert.Kernel3.Proj.frame m g,
  fun m g _ => Cert.Kernel3Ideal.Proj.frame m g,
  frame_Reference3Ideal,
  fun m g _ => Cert.Kernel4.Gen.frame m g,
  fun m g _ => Cert.Kernel4Ideal.Gen.frame m g,
  frame_Reference4Ideal,
  fun m g _ => Cert.Kernel5.Gen.frame m g,
  fun m g _ => Cert.Kernel5Ideal.Gen.frame m g,
  frame_Reference5Ideal,
  trivial,
  Cert.Att.algebraic Cert.Pre_finite_scores.Gen.facts,
  trivial,
  Cert.Ffn.algebraic,
  trivial,
  Cert.Proj.algebraic,
  trivial,
  Cert.Mix.algebraic,
  trivial,
  Cert.Ple.algebraic⟩

end Cert.Proof

end
